-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512 : Shape := ⟨2, ![2, 512]⟩
abbrev S3x2x512 : Shape := ⟨3, ![3, 2, 512]⟩
abbrev S3 : Shape := ⟨1, ![3]⟩
abbrev S512x1 : Shape := ⟨2, ![512, 1]⟩
abbrev S1x512 : Shape := ⟨2, ![1, 512]⟩
abbrev S_ : Shape := ⟨0, ![]⟩
abbrev S1 : Shape := ⟨1, ![1]⟩
abbrev S1x2x512 : Shape := ⟨3, ![1, 2, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512, .bf16⟩
  | .hbm, ⟨3, _⟩ => ⟨S2x512, .f32⟩
  | .local _ .vmem, ⟨0, _⟩ => ⟨S512x512, .bf16⟩
  | .local _ .vmem, ⟨1, _⟩ => ⟨S512x512, .bf16⟩
  | .local _ .vmem, ⟨2, _⟩ => ⟨S2x512, .f32⟩
  | .local _ .vmem, ⟨3, _⟩ => ⟨S2x512, .f32⟩
  | .local _ .vmem, ⟨4, _⟩ => ⟨S3x2x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v35 : BitVec 32 := Scalar.addi v2 c1_i32_11
  let c4_i32_12 : BitVec 32 := 4#32
  let c0_i32 : BitVec 32 := 0#32
  let v36 : BitVec 1 := Scalar.cmpi .eq c4_i32_12 c0_i32
  let c1_i32_13 : BitVec 32 := 1#32
  let v37 : BitVec 32 := Scalar.select v36 c1_i32_13 c4_i32_12
  let v38 : BitVec 32 := Scalar.remsi v35 v37
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let c0_i32_14 : BitVec 32 := 0#32
  let v39 : BitVec 1 := Scalar.cmpi .ne v38 c0_i32_14
  let v43 : BitVec 1 := Scalar.andi v42 v39
  let v44 : BitVec 32 := Scalar.addi v38 v37
  let v45 : BitVec 32 := Scalar.select v43 v44 v38
  let c1_i32_18 : BitVec 32 := 1#32
  let v46 : BitVec 32 := Scalar.muli v45 c1_i32_18
  let v47 : BitVec 32 := Scalar.addi c0_i32_19 v46
  v47.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v48 : BitVec 32 := Scalar.addi v2 c2_i32
  let c4_i32_20 : BitVec 32 := 4#32
  let c0_i32_21 : BitVec 32 := 0#32
  let v49 : BitVec 1 := Scalar.cmpi .eq c4_i32_20 c0_i32_21
  let c1_i32_22 : BitVec 32 := 1#32
  let v50 : BitVec 32 := Scalar.select v49 c1_i32_22 c4_i32_20
  let v51 : BitVec 32 := Scalar.remsi v48 v50
  let c0_i32_24 : BitVec 32 := 0#32
  let v53 : BitVec 1 := Scalar.cmpi .slt v51 c0_i32_24
  let c0_i32_25 : BitVec 32 := 0#32
  let v54 : BitVec 1 := Scalar.cmpi .slt v50 c0_i32_25
  let v55 : BitVec 1 := Scalar.xori v53 v54
  let c0_i32_23 : BitVec 32 := 0#32
  let v52 : BitVec 1 := Scalar.cmpi .ne v51 c0_i32_23
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.muli v58 c1_i32_27
  let v60 : BitVec 32 := Scalar.addi c0_i32_28 v59
  v60.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v61 : BitVec 32 := Scalar.addi v2 c3_i32
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c1_i32_36 : BitVec 32 := 1#32
  let v72 : BitVec 32 := Scalar.muli v71 c1_i32_36
  let v73 : BitVec 32 := Scalar.addi c0_i32_37 v72
  v73.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v74 : BitVec 32 := Scalar.addi v2 c1_i32_39
  let c4_i32_40 : BitVec 32 := 4#32
  let c0_i32_41 : BitVec 32 := 0#32
  let v75 : BitVec 1 := Scalar.cmpi .eq c4_i32_40 c0_i32_41
  let c1_i32_42 : BitVec 32 := 1#32
  let v76 : BitVec 32 := Scalar.select v75 c1_i32_42 c4_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c1_i32_49 : BitVec 32 := 1#32
  let v85 : BitVec 32 := Scalar.muli v84 c1_i32_49
  let v86 : BitVec 32 := Scalar.addi c0_i32_50 v85
  v86.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v93 : BitVec 32 := Scalar.addi v2 c2_i32_53
  let c4_i32_54 : BitVec 32 := 4#32
  let c0_i32_55 : BitVec 32 := 0#32
  let v94 : BitVec 1 := Scalar.cmpi .eq c4_i32_54 c0_i32_55
  let c1_i32_56 : BitVec 32 := 1#32
  let v95 : BitVec 32 := Scalar.select v94 c1_i32_56 c4_i32_54
  let v96 : BitVec 32 := Scalar.remsi v93 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_63 : BitVec 32 := 1#32
  let v104 : BitVec 32 := Scalar.muli v103 c1_i32_63
  let v105 : BitVec 32 := Scalar.addi c0_i32_64 v104
  v105.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_67 : BitVec 32 := 3#32
  let v112 : BitVec 32 := Scalar.addi v2 c3_i32_67
  let c4_i32_68 : BitVec 32 := 4#32
  let c0_i32_69 : BitVec 32 := 0#32
  let v113 : BitVec 1 := Scalar.cmpi .eq c4_i32_68 c0_i32_69
  let c1_i32_70 : BitVec 32 := 1#32
  let v114 : BitVec 32 := Scalar.select v113 c1_i32_70 c4_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c1_i32_77 : BitVec 32 := 1#32
  let v123 : BitVec 32 := Scalar.muli v122 c1_i32_77
  let v124 : BitVec 32 := Scalar.addi c0_i32_78 v123
  v124.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S2x512 : Shape := ⟨2, ![2, 512]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512, .bf16⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .i32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S1x512, .f32⟩
  | .hbm, ⟨53, _⟩ => ⟨S2x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩

abbrev nD : Nat := 1
abbrev τ : Topo := Topo.v7x

variable {F : FTy → Type} [FloatOps F]
-- ==== Proof.Protocol.lean ====
/-
# The exchange: who sends what to whom

Four devices. Each reduces its own 512 rows to a 2 × 512 block (`part`), then sends that block to the three
others. Device `c` sends its copy number `o` (`o = 0, 1, 2`) to device `c + o + 1`, into slot `o` of that device's
receive buffer. Before any copy starts, every device tells the three others that it is running, on the barrier
semaphore, and waits for three such units itself.

The protocol, in the words of the rounds library, one round per cell:

* the barrier cell of `c` has three duties, one per copy `c` is about to issue. Duty `o` is paid by the device that
  copy goes to, and hands over that device's slot `o` with the fact that its receive cell is at round 0;
* the send cell `o` of `c` has one duty, paid by copy `o` when its source has been read; it returns the share of
  `part` the copy read through;
* the receive cell `o` of `c` has one duty, paid by the copy that lands in slot `o`; it hands over the slot, reading
  as the sender's `part`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.LnBwd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (duties named by `Fin 3`) -/

/-- The exchange's own rounds: cells of the machine, duties named by a copy's number. -/
abbrev UX : Type := URounds (GSem nD τ sig) (Fin 3)
/-- The pipeline's rounds beside the exchange's. -/
abbrev UU : Type := UR sig nD τ × UX

local notation "𝕄" => MT nD τ sig Unit (Elt F) ℕ UU ℕ

/-- Where the pipeline's rounds sit in the whole algebra. -/
abbrev EP : Emb (UR sig nD τ) (MT nD τ sig Unit (Elt F) ℕ UU ℕ) := embL
/-- Where the exchange's rounds sit in the whole algebra. -/
abbrev EX : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The devices -/

set_option backward.proofsInPublic true in
/-- The device copy `o` of device `c` goes to. -/
def peer (o : Fin 3) (c : Dev nD) : Dev nD := ⟨(c.val + o.val + 1) % 4, Nat.mod_lt _ (by decide)⟩

/-- The copy that travels the opposite way: `peer o.rev` undoes `peer o`. -/
theorem peer_rev (o : Fin 3) (c : Dev nD) : peer o.rev (peer o c) = c := by revert o c; decide
/-- The same, the other way round. -/
theorem peer_rev' (o : Fin 3) (c : Dev nD) : peer o (peer o.rev c) = c := by revert o c; decide
/-- Reversing a copy's number twice changes nothing. -/
theorem rev_rev (o : Fin 3) : o.rev.rev = o := by revert o; decide

/-- Copy `o`'s destination as a permutation of the devices. -/
def turn (o : Fin 3) : Dev nD ≃ Dev nD := ⟨peer o, peer o.rev, peer_rev o, peer_rev' o⟩

/-- The first signal names `peer 0`. -/
theorem dev1_eq (c : Dev nD) : (⟨k0_dev1 c, k0_dev1_lt c⟩ : Dev nD) = peer 0 c := by revert c; decide
/-- The second signal names `peer 1`. -/
theorem dev2_eq (c : Dev nD) : (⟨k0_dev2 c, k0_dev2_lt c⟩ : Dev nD) = peer 1 c := by revert c; decide
/-- The third signal names `peer 2`. -/
theorem dev3_eq (c : Dev nD) : (⟨k0_dev3 c, k0_dev3_lt c⟩ : Dev nD) = peer 2 c := by revert c; decide
/-- The first copy goes to `peer 0`. -/
theorem dev4_eq (c : Dev nD) : (⟨k0_dev4 c, k0_dev4_lt c⟩ : Dev nD) = peer 0 c := by revert c; decide
/-- The second copy goes to `peer 1`. -/
theorem dev5_eq (c : Dev nD) : (⟨k0_dev5 c, k0_dev5_lt c⟩ : Dev nD) = peer 1 c := by revert c; decide
/-- The third copy goes to `peer 2`. -/
theorem dev6_eq (c : Dev nD) : (⟨k0_dev6 c, k0_dev6_lt c⟩ : Dev nD) = peer 2 c := by revert c; decide

/-! ## The memrefs and the cells -/

/-- The block of `x` in vector memory. -/
abbrev xM : Memref sig .tc .vmem S512x512 .bf16 := Memref.whole cc0_stg0_0
/-- The block of `dy` in vector memory. -/
abbrev dyM : Memref sig .tc .vmem S512x512 .bf16 := Memref.whole cc0_stg1_0
/-- The result in vector memory. -/
abbrev oM : Memref sig .tc .vmem S2x512 .f32 := Memref.whole cc0_stg2_0
/-- The device's own partial sums. -/
abbrev pM : Memref sig .tc .vmem S2x512 .f32 := Memref.whole cc0_scratch0
/-- The receive buffer, all three slots. -/
abbrev cM : Memref sig .tc .vmem S3x2x512 .f32 := Memref.whole cc0_scratch1

/-- Slot `o` of the receive buffer lies inside it. -/
theorem slot_inb (o : Fin 3) : ∀ a : Fin S3x2x512.rank, (![o.val, 0, 0] : Fin 3 → ℕ) a + S1x2x512.size a ≤ S3x2x512.size a := by
  revert o; decide

/-- The rectangle of slot `o`. -/
abbrev slotR (o : Fin 3) : Rect S3x2x512 := Rect.unit (s := S3x2x512) ![o.val, 0, 0] S1x2x512.size (slot_inb o)

/-- Slot `o` of the receive buffer, as a 2 × 512 block. -/
abbrev slotM (o : Fin 3) : Memref sig .tc .vmem S2x512 .f32 :=
  (cM.slice (slotR o) (fun _ => rfl)).squeeze S2x512 squeezes_S1x2x512_S2x512

/-- The barrier semaphore (the runtime's, not scoped to the launch). -/
abbrev barS : Sem sig := (SemArray.scalar (sig.barrier 0 rfl) : Sems sig S_).sem
/-- The semaphore counting what copy `o` has read. -/
abbrev sendS (o : Fin 3) : DmaSem sig := (⟨3 + o.val, by have := o.isLt; show 3 + o.val < 9; omega⟩ : Fin 9)
/-- The semaphore counting what has landed in slot `o`. -/
abbrev recvS (o : Fin 3) : DmaSem sig := (⟨6 + o.val, by have := o.isLt; show 6 + o.val < 9; omega⟩ : Fin 9)

/-- The barrier cell of `c`. -/
abbrev barCell (c : Dev nD) : GSem nD τ sig := ((c : Thread nD τ), .reg barS)
/-- The send cell `o` of `c`. -/
abbrev sendCell (o : Fin 3) (c : Dev nD) : GSem nD τ sig := ((c : Thread nD τ), .dma (sendS o))
/-- The receive cell `o` of `c`. -/
abbrev recvCell (o : Fin 3) (c : Dev nD) : GSem nD τ sig := ((c : Thread nD τ), .dma (recvS o))

/-- What one copy counts for. -/
abbrev N : ℕ := (slotM 0 : Memref sig .tc .vmem S2x512 .f32).view.dmaCredit
/-- A copy counts for something. -/
theorem N_pos : 0 < N := View.dmaCredit_pos _ (by decide)

/-! ## The contents -/

/-- Device `c`'s block of `x`, staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s block of `dy`, staged. -/
def dystg (c : Dev nD) : (cc0_stg1_0 : Ref sig .tc).ty.Contents (Elt F) :=
  (win0_1.blk (0 : Fin 1)).view.read (Elt F) ((s₀ m ρ).mem ((c : Thread nD τ).loc main_arg1))
/-- Device `c`'s partial sums. -/
def part (c : Dev nD) : Vec F S2x512 .f32 := k0_pay1 (xstg m ρ c) (dystg m ρ c)

/-- What the copies deliver into slot `o` of device `c`: the partial sums of the device whose copy `o` lands there. -/
def arrived (o : Fin 3) (c : Dev nD) : Vec F S2x512 .f32 := part m ρ (peer o.rev c)

/-- The result on device `c`: its own partial sums and the three it received, added in slot order. -/
def outAt (c : Dev nD) : Vec F S2x512 .f32 :=
  addf (addf (addf (part m ρ c) (arrived m ρ 0 c)) (arrived m ρ 1 c)) (arrived m ρ 2 c)

/-- The partial sums held at share `q`, known. -/
def partPts (q : PosShare TreeShare) (c : Dev nD) : sProp 𝕄 :=
  pM.view.loc (c : Thread nD τ) ↦[pM.view.set]{q} (part m ρ c : Buf (Elt F) (pM.view.loc (c : Thread nD τ)))
/-- Slot `o` of device `c` held whole at contents `f`. -/
def slotPts (o : Fin 3) (c : Dev nD) (f : Buf (Elt F) ((slotM o).view.loc (c : Thread nD τ))) : sProp 𝕄 :=
  (slotM o).view.loc (c : Thread nD τ) ↦[(slotM o).view.set]{fullShare} f
/-- Slot `o` of device `c` held whole, its contents reading as what was sent. -/
def landed (o : Fin 3) (c : Dev nD) : sProp 𝕄 :=
  iprop(∃ f, ⌜(slotM o).view.read (Elt F) f = arrived m ρ o c⌝ ∗ slotPts o c f)

omit [FloatOps F] in
instance slotPts_storable (o : Fin 3) (c : Dev nD) (f) : BI.Storable (upEmb : UEmb _ 𝕄) (slotPts (F := F) o c f) := by
  unfold slotPts; infer_instance
instance partPts_storable (q : PosShare TreeShare) (c : Dev nD) : BI.Storable (upEmb : UEmb _ 𝕄) (partPts (F := F) m ρ q c) := by
  unfold partPts; infer_instance
instance landed_storable (o : Fin 3) (c : Dev nD) : BI.Storable (upEmb : UEmb _ 𝕄) (landed (F := F) m ρ o c) := by
  unfold landed; infer_instance

/-- The share copy `o` reads `part` through. -/
def sh : Fin 3 → PosShare TreeShare
  | 0 => (fullShare : PosShare TreeShare).right
  | 1 => (fullShare : PosShare TreeShare).left.right
  | 2 => (fullShare : PosShare TreeShare).left.left.right

/-! ## The schedule -/

/-- What duty `o` of `c`'s barrier cell hands `c`: slot `o` of the device its copy `o` goes to, and that device's
    receive cell at round 0. -/
def barPay (o : Fin 3) (c : Dev nD) : sProp 𝕄 :=
  iprop((∃ f, slotPts o (peer o c) f) ∗ reached EX (recvCell o (peer o c)) 0)

/-- The number of the copy a send or receive semaphore counts. -/
def copyOf (q : DmaSem sig) : Fin 3 := ⟨q.val % 3, Nat.mod_lt _ (by decide)⟩

/-- A barrier cell of a device's main thread. -/
abbrev IsBar (g : GSem nD τ sig) : Prop := g.1.2 = .tc ∧ g.2 = .reg barS
/-- The semaphores of the copies. -/
def isCopy : SemLoc sig → Bool
  | .reg _ => false
  | .dma q => decide (3 ≤ q.val)
/-- A send or receive cell of a device's main thread. -/
abbrev IsXfer (g : GSem nD τ sig) : Prop := g.1.2 = .tc ∧ isCopy g.2 = true

/-- What a cell's duty hands over. -/
def payOf (c : Dev nD) (d : Fin 3) : SemLoc sig → sProp 𝕄
  | .reg _ => barPay d c
  | .dma q => if q.val < 6 then partPts m ρ (sh (copyOf q)) c else landed m ρ (copyOf q) c

/-- The exchange: one round; a barrier cell has a duty of one unit per copy, a send or receive cell one duty of a
    copy's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := payOf m ρ g.1.1 d g.2
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (payOf m ρ g.1.1 d g.2)
  cases g.2 with
  | reg s => unfold payOf barPay; infer_instance
  | dma q => unfold payOf; dsimp only; split <;> infer_instance

section Sched
variable (o : Fin 3) (c : Dev nD)

/-- A send semaphore is not the barrier. -/
theorem send_ne_bar : (SemLoc.dma (sendS o) : SemLoc sig) ≠ .reg barS := fun h => by cases h
/-- A receive semaphore is not the barrier. -/
theorem recv_ne_bar : (SemLoc.dma (recvS o) : SemLoc sig) ≠ .reg barS := fun h => by cases h
/-- A send semaphore is a copy's. -/
theorem isCopy_send : isCopy (.dma (sendS o)) = true := by revert o; decide
/-- A receive semaphore is a copy's. -/
theorem isCopy_recv : isCopy (.dma (recvS o)) = true := by revert o; decide
/-- Send semaphore `o` is copy `o`'s. -/
theorem copyOf_send : copyOf (sendS o) = o := by revert o; decide
/-- Receive semaphore `o` is copy `o`'s. -/
theorem copyOf_recv : copyOf (recvS o) = o := by revert o; decide

/-- A barrier cell has three duties. -/
theorem duties_bar : (sched (F := F) m ρ).duties (barCell c) 0 = Finset.univ := by
  dsimp only [sched]; exact if_pos ⟨rfl, rfl, rfl⟩
/-- A send cell has one duty. -/
theorem duties_send : (sched (F := F) m ρ).duties (sendCell o c) 0 = {0} := by
  dsimp only [sched]; rw [if_neg (fun h => send_ne_bar o h.2.2)]
  exact if_pos ⟨rfl, rfl, isCopy_send o⟩
/-- A receive cell has one duty. -/
theorem duties_recv : (sched (F := F) m ρ).duties (recvCell o c) 0 = {0} := by
  dsimp only [sched]; rw [if_neg (fun h => recv_ne_bar o h.2.2)]
  exact if_pos ⟨rfl, rfl, isCopy_recv o⟩
/-- No cell has a duty after its first round. -/
theorem duties_later (g : GSem nD τ sig) : ∀ r, 1 ≤ r → (sched (F := F) m ρ).duties g r = ∅ :=
  fun r hr => by dsimp only [sched]; rw [if_neg fun h => by omega, if_neg fun h => by omega]

/-- A signal is one unit. -/
theorem amount_bar (d : Fin 3) : (sched (F := F) m ρ).amount (barCell c) 0 d = 1 := by dsimp only [sched]; exact if_pos rfl
/-- A send cell's duty is the size of the copy. -/
theorem amount_send (d : Fin 3) : (sched (F := F) m ρ).amount (sendCell o c) 0 d = N := by
  dsimp only [sched]; exact if_neg (send_ne_bar o)
/-- A receive cell's duty is the size of the copy. -/
theorem amount_recv (d : Fin 3) : (sched (F := F) m ρ).amount (recvCell o c) 0 d = N := by
  dsimp only [sched]; exact if_neg (recv_ne_bar o)

/-- A barrier cell expects three units. -/
theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
/-- A send cell expects one copy's size. -/
theorem expect_send : (sched (F := F) m ρ).expect (sendCell o c) 0 = N := by
  unfold Schedule.expect Schedule.amountOf; rw [duties_send, Finset.sum_singleton, amount_send]
/-- A receive cell expects one copy's size. -/
theorem expect_recv : (sched (F := F) m ρ).expect (recvCell o c) 0 = N := by
  unfold Schedule.expect Schedule.amountOf; rw [duties_recv, Finset.sum_singleton, amount_recv]

/-- A signal hands over the slot that the copy back is to write. -/
theorem payload_bar (d : Fin 3) : (sched (F := F) m ρ).payload (barCell c) 0 d = barPay d c := rfl
/-- A finished send hands back its share of the partial sums. -/
theorem payload_send (d : Fin 3) : (sched (F := F) m ρ).payload (sendCell o c) 0 d = partPts m ρ (sh o) c := by
  dsimp only [sched, payOf]; rw [copyOf_send, if_pos (by revert o; decide)]
/-- A landed copy hands over its slot with what it brought. -/
theorem payload_recv (d : Fin 3) : (sched (F := F) m ρ).payload (recvCell o c) 0 d = landed m ρ o c := by
  dsimp only [sched, payOf]; rw [copyOf_recv, if_neg (by revert o; decide)]

/-- Three conjuncts over `Fin 3`, spelt out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What the barrier wait brings: the three slots the copies are to write. -/
theorem rest_bar : bigSep ((sched (F := F) m ρ).duties (barCell c) 0 \ ∅) (fun d => (sched (F := F) m ρ).payload (barCell c) 0 d)
    = iprop(barPay 0 c ∗ barPay 1 c ∗ barPay 2 c) := by
  rw [Finset.sdiff_empty, duties_bar, bigSep_fin3]; rfl
/-- What a send wait brings back. -/
theorem rest_send : bigSep ((sched (F := F) m ρ).duties (sendCell o c) 0 \ ∅) (fun d => (sched (F := F) m ρ).payload (sendCell o c) 0 d)
    = partPts m ρ (sh o) c := by
  rw [Finset.sdiff_empty, duties_send, bigSep_singleton, payload_send]
/-- What a receive wait brings. -/
theorem rest_recv : bigSep ((sched (F := F) m ρ).duties (recvCell o c) 0 \ ∅) (fun d => (sched (F := F) m ρ).payload (recvCell o c) 0 d)
    = landed m ρ o c := by
  rw [Finset.sdiff_empty, duties_recv, bigSep_singleton, payload_recv]

end Sched

/-! ## What each device owes at launch; the levels -/

/-- The credit of copy `o` of `c`, on the cell it lands on. -/
def tR (o : Fin 3) (c : Dev nD) : CellTallies nD τ sig Unit := tallyAt (recvCell o (peer o c)) () N
/-- The unit of the signal to `peer o c`. -/
def tB (o : Fin 3) (c : Dev nD) : CellTallies nD τ sig Unit := tallyAt (barCell (peer o c)) () 1

/-- The copies a device still owes after its signals, the first to be sent summed last. -/
def V (c : Dev nD) : CellTallies nD τ sig Unit := tR 2 c + tR 1 c + tR 0 c
/-- What a device owes at launch: the three copies and the three signals. -/
def O₀ (c : Dev nD) : CellTallies nD τ sig Unit := V c + tB 2 c + tB 1 c + tB 0 c

/-- The levels' index set: one index on every device's main thread. -/
def L (g : GSem nD τ sig) : Finset Unit := if g.1.2 = .tc then {()} else ∅
/-- The level of a semaphore: barrier 1, receive 2, everything else 0. -/
def lvS : SemLoc sig → ℕ
  | .reg _ => 1
  | .dma q => if 6 ≤ q.val then 2 else 0
/-- The level of a cell. -/
def lv (g : GSem nD τ sig) (_ : Unit) : ℕ := lvS g.2

/-- Only the main threads have a level index. -/
theorem L_of_ne (g : GSem nD τ sig) (h : g.1.2 ≠ .tc) : L g = ∅ := if_neg h
/-- A main thread has the one level index. -/
theorem L_tc (c : Dev nD) (sm : SemLoc sig) : L ((c : Thread nD τ), sm) = {()} := if_pos rfl
/-- A receive cell has level 2. -/
theorem lv_recv (o : Fin 3) (c : Dev nD) : lv (recvCell o c) () = 2 := by
  show lvS (.dma (recvS o)) = 2; revert o; decide
/-- A barrier cell has level 1. -/
theorem lv_bar (c : Dev nD) : lv (barCell c) () = 1 := rfl

/-- Where `V` is positive: a receive cell of one of the three others. -/
theorem V_pos {c : Dev nD} {g : GSem nD τ sig} {u : Unit} (h : 0 < V c g u) : ∃ o, g = recvCell o (peer o c) := by
  unfold V tR at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h

/-- Where `O₀` is positive: there, or a barrier cell of one of the three others. -/
theorem O₀_pos {c : Dev nD} {g : GSem nD τ sig} {u : Unit} (h : 0 < O₀ c g u) :
    (∃ o, g = recvCell o (peer o c)) ∨ ∃ o, g = barCell (peer o c) := by
  by_contra hn
  rw [not_or] at hn
  have hV : V c g u = 0 := Nat.eq_zero_of_not_pos fun h' => hn.1 (V_pos h')
  have hB := hn.2
  rw [not_exists] at hB
  unfold O₀ tB at h
  simp only [Pi.add_apply, Finsupp.add_apply, tallyAt_apply] at h
  rw [hV, if_neg (fun h' => hB 2 h'.1), if_neg (fun h' => hB 1 h'.1), if_neg (fun h' => hB 0 h'.1)] at h
  exact Nat.lt_irrefl 0 h

/-- A wait on a staging semaphore is allowed, whatever of the launch is still owed. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ <;> exact Finset.mem_singleton_self _)
      (fun p hp => by
        rw [Finset.mem_singleton.mp hp]
        show lvS (.dma q) ≤ 0
        exact le_of_eq (if_neg (Nat.not_le.mpr hq)))
      (fun g u hg => by
        rcases O₀_pos hg with ⟨o, rfl⟩ | ⟨o, rfl⟩
        · rw [lv_recv]; decide
        · rw [lv_bar]; decide)
  · rw [MayWait_zero]; iintro -; iempintro

/-- The barrier wait is allowed: all that is owed then are the copies, on receive cells, above the barrier's level. -/
theorem mayWait_bar (c : Dev nD) : (levAts L lv : sProp 𝕄) ⊢ MayWait (c : Thread nD τ) (.reg barS) () (V c) :=
  MayOwe.of_cut (L := L) (lev := lv) 1 (fun p hp => by rw [Finset.mem_singleton.mp hp, L_tc]; exact Finset.mem_singleton_self _)
    (fun g u hg => by obtain ⟨o, rfl⟩ := V_pos hg; exact Finset.mem_singleton_self _)
    (fun p hp => by rw [Finset.mem_singleton.mp hp]; exact le_refl 1)
    (fun g u hg => by obtain ⟨o, rfl⟩ := V_pos hg; rw [lv_recv]; decide)

/-! ## The receive buffer as its three slots -/

/-- The elements of slot `o`. -/
abbrev slotSet (o : Fin 3) : Finset ((cc0_scratch1 : Ref sig .tc).ty.shape.Idx) := (slotR o).set

/-- They are the elements the slot's memref names. -/
theorem slot_set (o : Fin 3) : (slotM o).view.set = slotSet o :=
  (View.set_reshape (v := (View.whole cc0_scratch1).slice (slotR o)) squeezes_S1x2x512_S2x512.numel_eq).trans (View.set_slice_whole _ _)

/-- Different slots share no element. -/
theorem slot_disj (o o' : Fin 3) (h : o ≠ o') : Disjoint (slotSet o) (slotSet o') :=
  Rect.unit_disjoint (s := S3x2x512) (0 : Fin 3) (by revert o o'; decide)

/-- The slots cover the buffer. -/
theorem slot_cover : (Finset.univ : Finset (Fin 3)).biUnion slotSet = Finset.univ := by
  ext i
  simp only [Finset.mem_biUnion, Finset.mem_univ, true_and, iff_true]
  have h1 : ((i : S3x2x512.Idx) (1 : Fin 3)).val < 2 := ((i : S3x2x512.Idx) (1 : Fin 3)).isLt
  have h2 : ((i : S3x2x512.Idx) (2 : Fin 3)).val < 512 := ((i : S3x2x512.Idx) (2 : Fin 3)).isLt
  refine ⟨(i : S3x2x512.Idx) (0 : Fin 3), Rect.mem_set_unit.mpr fun a => ?_⟩
  fin_cases a
  · exact ⟨le_refl _, Nat.lt_succ_self _⟩
  · exact ⟨Nat.zero_le _, by show ((i : S3x2x512.Idx) (1 : Fin 3)).val < 0 + 2; omega⟩
  · exact ⟨Nat.zero_le _, by show ((i : S3x2x512.Idx) (2 : Fin 3)).val < 0 + 512; omega⟩

/-- A slot held whole, by its elements. -/
theorem slotPts_eq (o : Fin 3) (c : Dev nD) (f : Buf (Elt F) ((c : Thread nD τ).loc cc0_scratch1)) :
    slotPts o c f = (((c : Thread nD τ).loc cc0_scratch1) ↦[slotSet o]{fullShare} f : sProp 𝕄) := by
  unfold slotPts; rw [slot_set]

/-- The receive buffer whole is its three slots. -/
theorem comm_split (c : Dev nD) (f : Buf (Elt F) ((c : Thread nD τ).loc cc0_scratch1)) :
    (((c : Thread nD τ).loc cc0_scratch1) ↦{fullShare} f : sProp 𝕄) ⊢ iprop(slotPts 0 c f ∗ slotPts 1 c f ∗ slotPts 2 c f) := by
  refine Entails.of_eq ?_
  rw [Ring.pointsTo_blocks (ℓ := (c : Thread nD τ).loc cc0_scratch1) slotSet slot_disj slot_cover, bigSep_fin3,
    slotPts_eq, slotPts_eq, slotPts_eq]

/-- Its three slots, at any contents, are the receive buffer whole. -/
theorem comm_join (c : Dev nD) (f₀ : Buf (Elt F) ((c : Thread nD τ).loc cc0_scratch1)) :
    iprop((∃ f, slotPts 0 c f) ∗ (∃ f, slotPts 1 c f) ∗ (∃ f, slotPts 2 c f))
      ⊢ (iprop(∃ g, ((c : Thread nD τ).loc cc0_scratch1) ↦{fullShare} g) : sProp 𝕄) := by
  refine BIBase.Entails.trans (Entails.of_eq ?_)
    (Ring.pointsTo_blocks_join_exists (ℓ := (c : Thread nD τ).loc cc0_scratch1) slotSet slot_disj slot_cover f₀)
  rw [bigSep_fin3]
  simp only [← slotPts_eq]

/-- A load of slot `o` through the receive buffer reads inside the slot. -/
theorem load_inside (o : Fin 3) : cM.view.setOn (slotR o).toLoadRect.set ⊆ (slotM o).view.set := by
  rw [show (slotM o).view.set = (cM.view.slice (slotR o)).set from View.set_reshape _ _, View.set_slice]
  exact subset_rfl

/-- What such a load reads, as a 2 × 512 block, is what the slot reads. -/
theorem load_slot (o : Fin 3) (c : Dev nD) (f : Buf (Elt F) ((slotM o).view.loc (c : Thread nD τ))) :
    shapeCast S2x512 (cM.view.readAt (Elt F) (slotR o).toLoadRect f) shapeCasts_S1x2x512_S2x512 = (slotM o).view.read (Elt F) f := rfl

end Cert.LnBwd

end
-- ==== Proof.Steps.lean ====
/-
# The kernel's synchronising steps, one lemma each

Every signal, copy and wait of the kernel as a rule over the schedule of `Protocol`, for copy number `o`: what it
takes and what it gives. The body's proof applies each of them three times.
-/
module

public import proofs.«01_k».proof.Proof.Protocol

@[expose] public section

noncomputable section

namespace Cert.LnBwd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells, listed, and what everyone knows of them -/

/-- A device's seven cells' semaphores: the barrier, the three send, the three receive ones. -/
def csem : Fin 7 → SemLoc sig
  | ⟨0, _⟩ => .reg barS
  | ⟨k + 1, h⟩ => .dma (⟨k + 3, by show k + 3 < 9; omega⟩ : Fin 9)
/-- The position of send cell `o` in the list. -/
def ks (o : Fin 3) : Fin 7 := ⟨o.val + 1, by omega⟩
/-- The position of receive cell `o` in the list. -/
def kr (o : Fin 3) : Fin 7 := ⟨o.val + 4, by omega⟩
/-- A device's cell by its position. -/
abbrev kcell (ck : Dev nD × Fin 7) : GSem nD τ sig := ((ck.1 : Thread nD τ), csem ck.2)

/-- Cell 0 of a device is its barrier cell. -/
theorem kcell_bar (c : Dev nD) : kcell (c, 0) = barCell c := rfl
/-- Its send cells by number. -/
theorem kcell_send (o : Fin 3) (c : Dev nD) : kcell (c, ks o) = sendCell o c := by
  have : csem (ks o) = .dma (sendS o) := by revert o; decide
  exact congrArg (Prod.mk (c : Thread nD τ)) this
/-- Its receive cells by number. -/
theorem kcell_recv (o : Fin 3) (c : Dev nD) : kcell (c, kr o) = recvCell o c := by
  have : csem (kr o) = .dma (recvS o) := by revert o; decide
  exact congrArg (Prod.mk (c : Thread nD τ)) this

/-- What every device knows: each cell's invariant, under the name it was given, and that it is at round 0. -/
def records (K : Dev nD × Fin 7 → ℕ) : sProp 𝕄 :=
  iprop((bigSep Finset.univ fun ck : Dev nD × Fin 7 => cellInv EX (sched m ρ) (K ck) (kcell ck))
    ∗ bigSep Finset.univ fun ck : Dev nD × Fin 7 => reached EX (kcell ck) 0)

instance records_persistent (K : Dev nD × Fin 7 → ℕ) : BI.Persistent (records m ρ K) := by unfold records; infer_instance

variable (K : Dev nD × Fin 7 → ℕ)

/-- The records hold every cell's invariant. -/
theorem inv_at (ck : Dev nD × Fin 7) : records m ρ K ⊢ cellInv EX (sched m ρ) (K ck) (kcell ck) := by
  unfold records
  exact (sep_elim_left).trans (bigSep_elim (Finset.mem_univ ck))
/-- The records hold that every cell is at round 0. -/
theorem reached_at (ck : Dev nD × Fin 7) : records m ρ K ⊢ (reached EX (kcell ck) 0 : sProp 𝕄) := by
  unfold records
  exact (sep_elim_right).trans (bigSep_elim (Finset.mem_univ ck))

/-- The invariant of a barrier cell. -/
theorem inv_bar (c : Dev nD) : records m ρ K ⊢ cellInv EX (sched m ρ) (K (c, 0)) (barCell c) := inv_at m ρ K (c, 0)
/-- The invariant of a send cell. -/
theorem inv_send (o : Fin 3) (c : Dev nD) : records m ρ K ⊢ cellInv EX (sched m ρ) (K (c, ks o)) (sendCell o c) := by
  rw [← kcell_send]; exact inv_at m ρ K (c, ks o)
/-- The invariant of a receive cell. -/
theorem inv_recv (o : Fin 3) (c : Dev nD) : records m ρ K ⊢ cellInv EX (sched m ρ) (K (c, kr o)) (recvCell o c) := by
  rw [← kcell_recv]; exact inv_at m ρ K (c, kr o)
/-- A barrier cell is at round 0. -/
theorem reached_bar (c : Dev nD) : records m ρ K ⊢ (reached EX (barCell c) 0 : sProp 𝕄) := reached_at m ρ K (c, 0)
/-- A send cell is at round 0. -/
theorem reached_send (o : Fin 3) (c : Dev nD) : records m ρ K ⊢ (reached EX (sendCell o c) 0 : sProp 𝕄) := by
  rw [← kcell_send]; exact reached_at m ρ K (c, ks o)
/-- A receive cell is at round 0. -/
theorem reached_recv (o : Fin 3) (c : Dev nD) : records m ρ K ⊢ (reached EX (recvCell o c) 0 : sProp 𝕄) := by
  rw [← kcell_recv]; exact reached_at m ρ K (c, kr o)

/-- Only `Variants.none` is used: the kernel has no loop. -/
abbrev 𝒱₀ : Variants := Variants.none

/-- What a device still owes, its record of waits left open. -/
def owesAny (c : Dev nD) (O : CellTallies nD τ sig Unit) : sProp 𝕄 := iprop(∃ W, owes (c : Thread nD τ) O W)

/-- The signal to `peer o c`: it pays the duty of that device's copy that will land in `c`'s slot `o.rev`, and gives the
    slot up. -/
theorem signal_step {α : Type} {Q : α → sProp 𝕄} {k : PUnit → Prog (TpuEff nD τ sig (Elt F) Λ₀ .tc) α} (o : Fin 3) (c n : Dev nD) (hn : n = peer o c) (O : CellTallies nD τ sig Unit) :
    iprop(records m ρ K ∗ owesAny c (O + tB o c) ∗ dutyTok EX (barCell (peer o c)) 0 o.rev ∗ (∃ f, slotPts o.rev c f))
      ⊢ iprop((owesAny c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  unfold owesAny
  iintro ⟨#HR, ⟨%W, HO⟩, Ht, Hs⟩ Hk
  iapply (Rounds.wp_signal 𝒱₀ EX (sched m ρ) (c : Thread nD τ) none (dst := (peer o c : Thread nD τ)) (κ := K (peer o c, 0))
      (d := o.rev) (by rw [duties_bar]; exact Finset.mem_univ _) ((amount_bar m ρ (peer o c) o.rev).trans (by decide)) () O rfl)
    $$ [HO Ht Hs]
  · isplitr; · iapply (inv_bar m ρ K (peer o c)); iexact HR
    isplitl [HO]; · iexact HO
    isplitl [Ht]; · iexact Ht
    isplitl [Hs]
    · rw [payload_bar]; unfold barPay; rw [peer_rev]
      isplitl [Hs]; · iexact Hs
      iapply (reached_recv m ρ K o.rev c); iexact HR
    iapply (reached_bar m ρ K (peer o c)); iexact HR
  iintro HO
  iapply Hk
  iexists W; iexact HO

/-- The wait for three units on its own barrier cell: the three slots its copies are to write come with it, and the cell
    closes. -/
theorem barrier_step {α : Type} {Q : α → sProp 𝕄} {k : PUnit → Prog (TpuEff nD τ sig (Elt F) Λ₀ .tc) α} (c : Dev nD) :
    iprop(records m ρ K ∗ levAts L lv ∗ cred (tallyAt (barCell c) () 3) ∗ owesAny c (V c) ∗ atPos EX (barCell c) 0 ∅ 0)
      ⊢ iprop(((owesAny c (V c) ∗ semVal (barCell c) 0
              ∗ (∃ f, slotPts 0 (peer 0 c) f) ∗ (∃ f, slotPts 1 (peer 1 c) f) ∗ (∃ f, slotPts 2 (peer 2 c) f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32 : BitVec 32).toInt) k) Q) := by
  unfold owesAny
  iintro ⟨#HR, #Hlev, Hc, ⟨%W, HO⟩, Hat⟩ Hk
  iapply (Rounds.wp_wait_rest_token 𝒱₀ EX (sched m ρ) (c : Thread nD τ) none (κ := K (c, 0))
      (wpE_semWait_eq 𝒱₀ (c : Thread nD τ) none Set.univ) (Set.mem_univ _) () (O := V c) (W := W) (R := 0) (m := 0) (T := ∅)
      (by rw [expect_bar]; decide)) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  unfold barPay
  icases Hp with ⟨⟨H0, -⟩, ⟨H1, -⟩, ⟨H2, -⟩⟩
  imod (Rounds.cell_close EX (sched m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexists _; iexact HO
  isplitl [Hz]; · iexact Hz
  isplitl [H0]; · iexact H0
  isplitl [H1] <;> iassumption

/-- Every slot counts for the same credit. -/
theorem slot_credit (o : Fin 3) : (slotM o : Memref sig .tc .vmem S2x512 .f32).view.dmaCredit = N := rfl
/-- The partial sums' buffer counts for the same. -/
theorem part_credit : (pM : Memref sig .tc .vmem S2x512 .f32).view.dmaCredit = N := rfl

/-- Copy `o`: from the share of `part` set aside for it into slot `o` of `peer o c`. -/
theorem send_step {α : Type} {Q : α → sProp 𝕄} {k : PUnit → Prog (TpuEff nD τ sig (Elt F) Λ₀ .tc) α} (o : Fin 3) (c n : Dev nD) (hn : n = peer o c) (sS rS : DmaSem sig) (hs : sS = sendS o) (hr : rS = recvS o)
    {hsc : (slotM o : Memref sig (Dev.tc n : Thread nD τ).2.kind .vmem S2x512 .f32).view.ref.isScScratch = false}
    {hsrc : (pM : Memref sig .tc .vmem S2x512 .f32).view.WordExact} {hdst : (slotM o : Memref sig .tc .vmem S2x512 .f32).view.WordExact}
    {hsem : DmaTarget.Typed .vmem (.dma rS) (.remote (Dev.tc n : Thread nD τ) (slotM o : Memref sig .tc .vmem S2x512 .f32) (.dma sS) hsc)}
    (O : CellTallies nD τ sig Unit) :
    iprop(records m ρ K ∗ partPts m ρ (sh o) c ∗ (∃ f, slotPts o (peer o c) f) ∗ owesAny c (O + tR o c)
        ∗ dutyTok EX (sendCell o c) 0 0 ∗ dutyTok EX (recvCell o (peer o c)) 0 0)
      ⊢ iprop(((cred (tallyAt (sendCell o c) () N) ∗ owesAny c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) (slotM o) (.dma sS) hsc) (.dma rS) hsrc hdst hsem) k) Q) := by
  subst hn hs hr
  unfold owesAny partPts slotPts
  iintro ⟨#HR, Hp, ⟨%f, Hd⟩, ⟨%W, HO⟩, HtS, HtV⟩ Hk
  iapply (Rounds.wp_send_pointsTo 𝒱₀ EX (sched m ρ) (c : Thread nD τ) none (κ₁ := K (c, ks o)) (κ₂ := K (peer o c, kr o))
      (r₁ := 0) (r₂ := 0) (d₁ := 0) (d₂ := 0) (fd := f)
      (by rw [duties_send]; exact Finset.mem_singleton_self _) (by rw [duties_recv]; exact Finset.mem_singleton_self _)
      () () N (show (slotM o).view.amount (.dma (recvS o)) = N from slot_credit o) (amount_send m ρ o c 0) (amount_recv m ρ o (peer o c) 0) O rfl (W := W)
      (by rw [payload_send]; exact BI.Entails.refl _)
      (by
        rw [payload_recv]; unfold landed slotPts arrived; rw [peer_rev]
        iintro H
        iexists _
        isplitr
        · ipureintro; exact View.read_write_univ (v := (slotM o).view) f _
        · iexact H)) $$ [Hp Hd HO HtS HtV]
  · isplitr; · iapply (inv_send m ρ K o c); iexact HR
    isplitr; · iapply (inv_recv m ρ K o (peer o c)); iexact HR
    isplitl [Hp]; · iexact Hp
    isplitl [Hd]; · iexact Hd
    isplitl [HO]; · iexact HO
    isplitl [HtS]; · iexact HtS
    isplitr; · iapply (reached_send m ρ K o c); iexact HR
    isplitl [HtV]; · iexact HtV
    iapply (reached_recv m ρ K o (peer o c)); iexact HR
  iintro ⟨Hc, HO⟩
  iapply Hk
  isplitl [Hc]; · iexact Hc
  iexists W; iexact HO

/-- The wait for what lands in slot `o`: the slot comes back holding what was sent, and the cell closes. -/
theorem recv_step {α : Type} {Q : α → sProp 𝕄} {k : PUnit → Prog (TpuEff nD τ sig (Elt F) Λ₀ .tc) α} (o : Fin 3) (c : Dev nD) (rS : DmaSem sig) (hr : rS = recvS o)
    {h₁ : (pM : Memref sig .tc .vmem S2x512 .f32).view.WordExact} {h₂ : (slotM o : Memref sig .tc .vmem S2x512 .f32).view.WordExact} :
    iprop(records m ρ K ∗ cred (tallyAt (recvCell o c) () N) ∗ owesAny c 0 ∗ atPos EX (recvCell o c) 0 ∅ 0)
      ⊢ iprop(((owesAny c 0 ∗ semVal (recvCell o c) 0 ∗ landed m ρ o c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS pM (slotM o) h₁ h₂) k) Q) := by
  subst hr
  unfold owesAny
  iintro ⟨#HR, Hc, ⟨%W, HO⟩, Hat⟩ Hk
  iapply (Rounds.wp_wait_rest_token 𝒱₀ EX (sched m ρ) (c : Thread nD τ) none (κ := K (c, kr o))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m ρ K o c); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ o c)) $$ Hpay
  imod (Rounds.cell_close EX (sched m ρ) (Set.mem_univ (K (c, kr o))) (fun h => h) (R := 0 + 1) (duties_later m ρ (recvCell o c))) $$ [Hat] with Hz
  · isplitr; · iapply (inv_recv m ρ K o c); iexact HR
    iexact Hat
  iapply Hk
  isplitl [HO]; · iexists _; iexact HO
  isplitl [Hz] <;> iassumption

/-- The wait for copy `o` to have been read: its share of `part` comes back, and the cell closes. -/
theorem sent_step {α : Type} {Q : α → sProp 𝕄} {k : PUnit → Prog (TpuEff nD τ sig (Elt F) Λ₀ .tc) α} (o : Fin 3) (c : Dev nD) (sS : DmaSem sig) (hs : sS = sendS o)
    {h₁ : (slotM o : Memref sig .tc .vmem S2x512 .f32).view.WordExact} {h₂ : (pM : Memref sig .tc .vmem S2x512 .f32).view.WordExact} :
    iprop(records m ρ K ∗ cred (tallyAt (sendCell o c) () N) ∗ owesAny c 0 ∗ atPos EX (sendCell o c) 0 ∅ 0)
      ⊢ iprop(((owesAny c 0 ∗ semVal (sendCell o c) 0 ∗ partPts m ρ (sh o) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS (slotM o) pM h₁ h₂) k) Q) := by
  subst hs
  unfold owesAny
  iintro ⟨#HR, Hc, ⟨%W, HO⟩, Hat⟩ Hk
  iapply (Rounds.wp_wait_rest_token 𝒱₀ EX (sched m ρ) (c : Thread nD τ) none (κ := K (c, ks o))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m ρ K o c); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ o c)) $$ Hpay
  imod (Rounds.cell_close EX (sched m ρ) (Set.mem_univ (K (c, ks o))) (fun h => h) (R := 0 + 1) (duties_later m ρ (sendCell o c))) $$ [Hat] with Hz
  · isplitr; · iapply (inv_send m ρ K o c); iexact HR
    iexact Hat
  iapply Hk
  isplitl [HO]; · iexists _; iexact HO
  isplitl [Hz] <;> iassumption

/-! ## The partial sums in four shares -/

/-- The partial sums held whole are the three copies' shares and the one kept. -/
theorem part_shares (c : Dev nD) : (partPts m ρ fullShare c : sProp 𝕄)
    = iprop(((partPts m ρ (fullShare : PosShare TreeShare).left.left.left c ∗ partPts m ρ (sh 2) c) ∗ partPts m ρ (sh 1) c) ∗ partPts m ρ (sh 0) c) := by
  have h (q : PosShare TreeShare) : (partPts m ρ q c : sProp 𝕄) = iprop(partPts m ρ q.left c ∗ partPts m ρ q.right c) := by
    unfold partPts
    exact BI.Entails.antisymm (pointsTo_share (PosShare.mem_left_op_right q)).1 (pointsTo_share (PosShare.mem_left_op_right q)).2
  conv_lhs => rw [h fullShare, h (fullShare : PosShare TreeShare).left, h (fullShare : PosShare TreeShare).left.left]
  rfl

end Cert.LnBwd

end
-- ==== Proof.Body.lean ====
/-
# The kernel's body on one device

The body executed symbolically, one rule per effect in program order: from what the launch deals a device to the
result in its vector memory, every one of its cells closed again.
-/
module

public import proofs.«01_k».proof.Proof.Steps

@[expose] public section

noncomputable section

namespace Cert.LnBwd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- A device's positions: at round 0 of its seven cells. -/
def atAll (c : Dev nD) : sProp 𝕄 :=
  iprop(atPos EX (barCell c) 0 ∅ 0
    ∗ (atPos EX (sendCell 0 c) 0 ∅ 0 ∗ atPos EX (sendCell 1 c) 0 ∅ 0 ∗ atPos EX (sendCell 2 c) 0 ∅ 0)
    ∗ (atPos EX (recvCell 0 c) 0 ∅ 0 ∗ atPos EX (recvCell 1 c) 0 ∅ 0 ∗ atPos EX (recvCell 2 c) 0 ∅ 0))

/-- The tokens of the duties a device pays: one per signal, one per copy read, one per copy landed. -/
def payToks (c : Dev nD) : sProp 𝕄 :=
  iprop((bigSep Finset.univ fun o : Fin 3 => dutyTok EX (barCell (peer o c)) 0 o.rev)
    ∗ (bigSep Finset.univ fun o : Fin 3 => dutyTok EX (sendCell o c) 0 (0 : Fin 3))
    ∗ (bigSep Finset.univ fun o : Fin 3 => dutyTok EX (recvCell o (peer o c)) 0 (0 : Fin 3)))

/-- What the exchange's ghost state deals device `c`. -/
def ghost (K : Dev nD × Fin 7 → ℕ) (c : Dev nD) : sProp 𝕄 :=
  iprop(records m ρ K ∗ atAll c ∗ payToks c)

/-- The credits device `c` is dealt for its own waits. -/
def creds₀ (c : Dev nD) : sProp 𝕄 :=
  iprop(cred (tallyAt (barCell c) () 3)
    ∗ (cred (tallyAt (recvCell 0 c) () N) ∗ cred (tallyAt (recvCell 1 c) () N) ∗ cred (tallyAt (recvCell 2 c) () N)))

/-- What device `c`'s body starts from beside its scratch buffers. -/
def start (c : Dev nD) : sProp 𝕄 :=
  iprop((∃ K, ghost m ρ K c) ∗ creds₀ c ∗ levAts L lv)

/-- The two scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the point. -/
def Φ₀ (c : Dev nD) : sProp 𝕄 := iprop(start m ρ c ∗ scratch c)
/-- After the point: the scratch buffers, and every cell closed at zero. -/
def Φ₁ (c : Dev nD) : sProp 𝕄 :=
  iprop(scratch c ∗ semVal (barCell c) 0
    ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

/-- The pipeline's proof data: the windows' arrays at launch, what the point leaves staged, what is carried. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid has one point. -/
theorem cfg0_N : cfg0.N = 1 := by decide
/-- That point. -/
def t₀ : Fin cfg0.N := ⟨0, by rw [cfg0_N]; decide⟩
/-- The grid has that point alone. -/
theorem fin_N (t : Fin cfg0.N) : t = t₀ := by
  obtain ⟨t, ht⟩ := t; have := cfg0_N; exact Fin.ext (by simp only [t₀]; omega)

/-- `x` is fetched at it. -/
theorem fetch_0 (t : Fin cfg0.N) : (cfg0.win (0 : Fin 3)).fetch t = true := by rw [fin_N t]; rfl
/-- So is `dy`. -/
theorem fetch_1 (t : Fin cfg0.N) : (cfg0.win (1 : Fin 3)).fetch t = true := by rw [fin_N t]; rfl

/-- A whole buffer owned at contents `X`, by its location. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The loads and stores -/

/-- The offsets of a whole block are zero. -/
theorem hz : (![0, 0] : Fin 2 → Nat) = fun _ => 0 := funext fun a => by fin_cases a <;> rfl

/-- The rectangle of a whole 512 × 512 block. -/
abbrev rX : Rect S512x512 := Rect.unit (s := S512x512) ![0, 0] S512x512.size inb_S512x512_S512x512_0_0
/-- The rectangle of a whole 2 × 512 block. -/
abbrev rO : Rect S2x512 := Rect.unit (s := S2x512) ![0, 0] S2x512.size inb_S2x512_S2x512_0_0

/-- A load of all of `x` reads its contents. -/
theorem read_x (f : (cc0_stg0_0 : Ref sig .tc).ty.Contents (Elt F)) : xM.view.readAt (Elt F) rX.toLoadRect f = f :=
  Memref.readAt_unit_zero (Elt F) cc0_stg0_0 hz _ f
/-- A load of all of `dy` reads its contents. -/
theorem read_dy (f : (cc0_stg1_0 : Ref sig .tc).ty.Contents (Elt F)) : dyM.view.readAt (Elt F) rX.toLoadRect f = f :=
  Memref.readAt_unit_zero (Elt F) cc0_stg1_0 hz _ f
/-- A load of all partial sums reads their contents. -/
theorem read_part (f : (cc0_scratch0 : Ref sig .tc).ty.Contents (Elt F)) : pM.view.readAt (Elt F) rO.toLoadRect f = f :=
  Memref.readAt_unit_zero (Elt F) cc0_scratch0 hz _ f
/-- A store of all partial sums leaves what it stored. -/
theorem write_part (f w : (cc0_scratch0 : Ref sig .tc).ty.Contents (Elt F)) :
    (pM.access rO : View sig .tc _ _ _).write (Elt F) f w Finset.univ = w :=
  Memref.write_access_unit_zero_univ (Elt F) cc0_scratch0 hz _ f w
/-- A store of the whole result leaves what it stored. -/
theorem write_out (f w : (cc0_stg2_0 : Ref sig .tc).ty.Contents (Elt F)) :
    (oM.access rO : View sig .tc _ _ _).write (Elt F) f w Finset.univ = w :=
  Memref.write_access_unit_zero_univ (Elt F) cc0_stg2_0 hz _ f w

/-- The partial sums' buffer held whole, by its location. -/
theorem partPts_eq (c : Dev nD) : (partPts m ρ fullShare c : sProp 𝕄)
    = (((c : Thread nD τ).loc cc0_scratch0) ↦{fullShare} (part m ρ c : Buf (Elt F) ((c : Thread nD τ).loc cc0_scratch0))) := by
  unfold partPts; rw [View.set_whole]

/-- The kernel's last value: its own partial sums and the three loads, added, once each load reads what arrived. -/
theorem pay2_eq (c : Dev nD) (f0 : Buf (Elt F) ((slotM 0).view.loc (c : Thread nD τ))) (f1 : Buf (Elt F) ((slotM 1).view.loc (c : Thread nD τ)))
    (f2 : Buf (Elt F) ((slotM 2).view.loc (c : Thread nD τ))) (h0 : (slotM 0).view.read (Elt F) f0 = arrived m ρ 0 c)
    (h1 : (slotM 1).view.read (Elt F) f1 = arrived m ρ 1 c) (h2 : (slotM 2).view.read (Elt F) f2 = arrived m ρ 2 c) :
    k0_pay2 (part m ρ c) (cM.view.readAt (Elt F) (slotR 0).toLoadRect f0) (cM.view.readAt (Elt F) (slotR 1).toLoadRect f1)
      (cM.view.readAt (Elt F) (slotR 2).toLoadRect f2) = outAt m ρ c := by
  unfold outAt
  rw [← h0, ← h1, ← h2, ← load_slot 0 c f0, ← load_slot 1 c f1, ← load_slot 2 c f2]
  rfl

/-! ## The body -/

section Body

variable (K : Dev nD × Fin 7 → ℕ)

/-- What the body runs from, the names fixed. -/
def bodyPre (c : Dev nD) : sProp 𝕄 :=
  iprop((ghost m ρ K c ∗ creds₀ c ∗ levAts L lv ∗ scratch c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it leaves. -/
def bodyPost (c : Dev nD) : sProp 𝕄 :=
  iprop(Φ₁ c ∗ (dats m ρ 0 c).owesAt () t₀.succ ∗ stg c cc0_stg0_0 (xstg m ρ c) ∗ stg c cc0_stg1_0 (dystg m ρ c)
    ∗ stg c cc0_stg2_0 (outAt m ρ c))

/-- The kernel's body at the launch's buffers. -/
abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) cc0_scratch2 cc0_scratch3

set_option maxHeartbeats 1600000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ bodyProg Kt := by
  unfold bodyProg
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost atAll payToks creds₀ scratch
  simp only [bigSep_fin3]
  iintro ⟨⟨⟨⟨#HR, ⟨HatB, ⟨HaS0, HaS1, HaS2⟩, ⟨HaV0, HaV1, HaV2⟩⟩, ⟨HtB0, HtB1, HtB2⟩, ⟨HtS0, HtS1, HtS2⟩, ⟨HtV0, HtV1, HtV2⟩⟩, ⟨HcB, ⟨HcV0, HcV1, HcV2⟩⟩, #Hlev, ⟨⟨%fp, Hp⟩, ⟨%fc, Hc⟩⟩⟩,
    Ho, ⟨%d0, %g0, %hg0, Hx⟩, ⟨%d1, %g1, %hg1, Hdy⟩, ⟨%d2, %g2, %hg2, Hout⟩⟩, Hk⟩
  have hx : g0 = xstg m ρ c := by rw [hg0]; unfold Dat.before; rw [if_pos (fetch_0 t₀)]; rfl
  have hdy : g1 = dystg m ρ c := by rw [hg1]; unfold Dat.before; rw [if_pos (fetch_1 t₀)]; rfl
  subst hx hdy
  unfold Dat.owesAt Pipeline.owesWithin
  icases Ho with ⟨%W, %hW, HO⟩
  rw [show (dats m ρ 0 c).owed t₀.castSucc = O₀ c from rfl]
  -- the local sums: both blocks loaded, their partial sums stored
  iapply (wp_load 𝒱₀ (c : Thread nD τ) none Set.univ (m := xM) (Finset.subset_univ _)) $$ Hx; iintro Hx
  rw [read_x]
  iapply (wp_load 𝒱₀ (c : Thread nD τ) none Set.univ (m := dyM) (Finset.subset_univ _)) $$ Hdy; iintro Hdy
  rw [read_dy]
  iapply (wp_load 𝒱₀ (c : Thread nD τ) none Set.univ (m := pM) (Finset.subset_univ _)) $$ Hp; iintro Hp
  iapply (wp_store 𝒱₀ (c : Thread nD τ) none Set.univ (m := pM) (r := rO) (Mk := Finset.univ) (Finset.subset_univ _)) $$ Hp; iintro Hp
  rw [write_part]
  ihave Hpp := (show ((pM.access rO : View sig .tc _ _ _).loc (c : Thread nD τ) ↦{fullShare} (k0_pay1 (xstg m ρ c) (dystg m ρ c)) : sProp 𝕄)
      ⊢ _ from Entails.of_eq ((partPts_eq m ρ c).symm.trans (part_shares m ρ c))) $$ Hp
  icases Hpp with ⟨⟨⟨HpK, Hp2⟩, Hp1⟩, Hp0⟩
  ihave Hcs := (comm_split (F := F) c fc) $$ Hc
  icases Hcs with ⟨Hc0, Hc1, Hc2⟩
  ihave HO := (show (owes (c : Thread nD τ) (O₀ c) W : sProp 𝕄) ⊢ owesAny c (V c + tB 2 c + tB 1 c + tB 0 c) from by
    unfold owesAny O₀; iintro H; iexists W; iexact H) $$ HO
  -- the three signals, each giving up the slot its receiver will write
  iapply (signal_step m ρ K 0 c _ (dev1_eq c) (V c + tB 2 c + tB 1 c)) $$ [HO HtB0 Hc2]
  · isplitr; · iexact HR
    isplitl [HO]; · iexact HO
    isplitl [HtB0]; · iexact HtB0
    iexists fc; iexact Hc2
  iintro HO
  iapply (signal_step m ρ K 1 c _ (dev2_eq c) (V c + tB 2 c)) $$ [HO HtB1 Hc1]
  · isplitr; · iexact HR
    isplitl [HO]; · iexact HO
    isplitl [HtB1]; · iexact HtB1
    iexists fc; iexact Hc1
  iintro HO
  iapply (signal_step m ρ K 2 c _ (dev3_eq c) (V c)) $$ [HO HtB2 Hc0]
  · isplitr; · iexact HR
    isplitl [HO]; · iexact HO
    isplitl [HtB2]; · iexact HtB2
    iexists fc; iexact Hc0
  iintro HO
  -- the wait for the three others
  iapply (barrier_step m ρ K c) $$ [HcB HO HatB]
  · isplitr; · iexact HR
    isplitr; · iexact Hlev
    isplitl [HcB]; · iexact HcB
    isplitl [HO]; · iexact HO
    iexact HatB
  iintro ⟨HO, HzB, Hd0, Hd1, Hd2⟩
  -- the three copies
  unfold V
  iapply (send_step m ρ K 0 c _ (dev4_eq c) _ _ rfl rfl (tR 2 c + tR 1 c)) $$ [Hp0 Hd0 HO HtS0 HtV0]
  · isplitr; · iexact HR
    isplitl [Hp0]; · iexact Hp0
    isplitl [Hd0]; · iexact Hd0
    isplitl [HO]; · iexact HO
    isplitl [HtS0]; · iexact HtS0
    iexact HtV0
  iintro ⟨HcS0, HO⟩
  iapply (send_step m ρ K 1 c _ (dev5_eq c) _ _ rfl rfl (tR 2 c)) $$ [Hp1 Hd1 HO HtS1 HtV1]
  · isplitr; · iexact HR
    isplitl [Hp1]; · iexact Hp1
    isplitl [Hd1]; · iexact Hd1
    isplitl [HO]; · iexact HO
    isplitl [HtS1]; · iexact HtS1
    iexact HtV1
  iintro ⟨HcS1, HO⟩
  iapply (send_step m ρ K 2 c _ (dev6_eq c) _ _ rfl rfl 0) $$ [Hp2 Hd2 HO HtS2 HtV2]
  · isplitr; · iexact HR
    isplitl [Hp2]; · iexact Hp2
    isplitl [Hd2]; · iexact Hd2
    isplitl [HO]; · rw [zero_add]; iexact HO
    isplitl [HtS2]; · iexact HtS2
    iexact HtV2
  iintro ⟨HcS2, HO⟩
  -- the three arrivals
  iapply (recv_step m ρ K 0 c _ rfl) $$ [HcV0 HO HaV0]
  · isplitr; · iexact HR
    isplitl [HcV0]; · iexact HcV0
    isplitl [HO]; · iexact HO
    iexact HaV0
  iintro ⟨HO, HzV0, Hl0⟩
  iapply (recv_step m ρ K 1 c _ rfl) $$ [HcV1 HO HaV1]
  · isplitr; · iexact HR
    isplitl [HcV1]; · iexact HcV1
    isplitl [HO]; · iexact HO
    iexact HaV1
  iintro ⟨HO, HzV1, Hl1⟩
  iapply (recv_step m ρ K 2 c _ rfl) $$ [HcV2 HO HaV2]
  · isplitr; · iexact HR
    isplitl [HcV2]; · iexact HcV2
    isplitl [HO]; · iexact HO
    iexact HaV2
  iintro ⟨HO, HzV2, Hl2⟩
  -- the sum over the devices, and its store
  unfold landed slotPts
  icases Hl0 with ⟨%f0, %h0, Hl0⟩
  icases Hl1 with ⟨%f1, %h1, Hl1⟩
  icases Hl2 with ⟨%f2, %h2, Hl2⟩
  unfold partPts
  iapply (wp_load 𝒱₀ (c : Thread nD τ) none Set.univ (m := pM) (by rw [View.set_whole]; exact Finset.subset_univ _)) $$ HpK; iintro HpK
  rw [read_part]
  iapply (wp_load 𝒱₀ (c : Thread nD τ) none Set.univ (m := cM) (load_inside 0)) $$ Hl0; iintro Hl0
  iapply (wp_load 𝒱₀ (c : Thread nD τ) none Set.univ (m := cM) (load_inside 1)) $$ Hl1; iintro Hl1
  iapply (wp_load 𝒱₀ (c : Thread nD τ) none Set.univ (m := cM) (load_inside 2)) $$ Hl2; iintro Hl2
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out]
  -- the copies have been read
  iapply (sent_step m ρ K 0 c _ rfl) $$ [HcS0 HO HaS0]
  · isplitr; · iexact HR
    isplitl [HcS0]; · iexact HcS0
    isplitl [HO]; · iexact HO
    iexact HaS0
  iintro ⟨HO, HzS0, Hp0⟩
  iapply (sent_step m ρ K 1 c _ rfl) $$ [HcS1 HO HaS1]
  · isplitr; · iexact HR
    isplitl [HcS1]; · iexact HcS1
    isplitl [HO]; · iexact HO
    iexact HaS1
  iintro ⟨HO, HzS1, Hp1⟩
  iapply (sent_step m ρ K 2 c _ rfl) $$ [HcS2 HO HaS2]
  · isplitr; · iexact HR
    isplitl [HcS2]; · iexact HcS2
    isplitl [HO]; · iexact HO
    iexact HaS2
  iintro ⟨HO, HzS2, Hp2⟩
  rw [wp_ret]; imodintro
  iapply Hk
  unfold bodyPost Φ₁ scratch Dat.owesAt Pipeline.owesWithin owesAny
  rw [show (dats m ρ 0 c).owed t₀.succ = 0 from rfl]
  icases HO with ⟨%W', HO⟩
  isplitl [HpK Hp0 Hp1 Hp2 Hl0 Hl1 Hl2 HzB HzS0 HzS1 HzS2 HzV0 HzV1 HzV2]
  · isplitl [HpK Hp0 Hp1 Hp2 Hl0 Hl1 Hl2]
    · isplitl [HpK Hp0 Hp1 Hp2]
      · iexists (part m ρ c : Buf (Elt F) ((c : Thread nD τ).loc cc0_scratch0))
        iapply (Entails.of_eq ((partPts_eq m ρ c).symm.trans (part_shares m ρ c)).symm)
        isplitl [HpK Hp1 Hp2]
        · isplitl [HpK Hp2]
          · isplitl [HpK]; · unfold partPts; iexact HpK
            iexact Hp2
          · iexact Hp1
        · iexact Hp0
      · iapply (comm_join (F := F) c f0)
        isplitl [Hl0]; · iexists f0; unfold slotPts; iexact Hl0
        isplitl [Hl1]; · iexists f1; unfold slotPts; iexact Hl1
        iexists f2; unfold slotPts; iexact Hl2
    isplitl [HzB]; · iexact HzB
    isplitl [HzS0 HzS1 HzS2]
    · isplitl [HzS0]; · iexact HzS0
      isplitl [HzS1] <;> iassumption
    isplitl [HzV0]; · iexact HzV0
    isplitl [HzV1] <;> iassumption
  isplitl [HO]
  · iexists W'
    isplitr; · ipureintro; exact fun _ _ => Or.inl trivial
    iexact HO
  isplitl [Hx]
  · iexists _; isplitr; · (ipureintro; rfl)
    iexact Hx
  isplitl [Hdy]
  · iexists _; isplitr; · (ipureintro; rfl)
    iexact Hdy
  iexists _; isplitr; · (ipureintro; exact pay2_eq m ρ c f0 f1 f2 h0 h1 h2)
  iexact Hout

/-- What the library's obligation starts from. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns, Memref.view_whole, View.read_whole, View.set_whole]
  show bodyPre' m ρ c ⊢ wp frame (wpE (defs₀ (F := F)) 𝒱₀ c none) Set.univ bodyProg (fun _ => bodyPost m ρ c)
  unfold bodyPre' Φ₀ start
  iintro ⟨⟨⟨⟨%K, Hg⟩, Hc, Hlev⟩, Hscr⟩, Ho, Hx, Hdy, Hout⟩
  iapply (sound_body m ρ K c fun _ => bodyPost m ρ c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Hx]; · iexact Hx
    isplitl [Hdy] <;> iassumption
  · iintro H; iexact H

end Body

end Cert.LnBwd

end
-- ==== Proof.Launch.lean ====
/-
# The launch

From the machine at launch to every device's body: the seven cells of each device allocated at once, the tokens of
their duties handed to the devices that pay them, the credit of every wait, and then the run of the whole program.
-/
module

public import proofs.«01_k».proof.Proof.Body
public import Idealize.ShloMosaic.Lib.Quiescent
public import Idealize.ShloMosaic.Lib.Pipeline.CollectiveSegs

@[expose] public section

noncomputable section

namespace Cert.LnBwd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores: those of its copies. -/
abbrev osem : Fin 6 → SemLoc sig := fun k => .dma (⟨3 + k.val, by have := k.isLt; show 3 + k.val < 9; omega⟩ : Fin 9)

/-- The kernel's own semaphores are apart from those of its windows. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- A device's seven semaphores are different. -/
theorem csem_injective : Function.Injective csem := by decide

/-- The devices' cells are all different. -/
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of the exchange. -/
def cellSet : Finset (GSem nD τ sig) := Finset.univ.map ⟨kcell, kcell_injective⟩

/-- The semaphore and the duty of one of a device's nine duties: three per kind of cell. -/
def dutyOf : Fin 3 × Fin 3 → SemLoc sig × Fin 3
  | (0, o) => (.reg barS, o.rev)
  | (1, o) => (.dma (sendS o), 0)
  | (2, o) => (.dma (recvS o), 0)
/-- A device's nine duties are different. -/
theorem dutyOf_injective : Function.Injective dutyOf := by decide

/-- The token of one of the nine duties of device `x.1`'s own cells. -/
abbrev tokOf (x : Dev nD × Fin 3 × Fin 3) : GSem nD τ sig × ℕ × Fin 3 := (((x.1 : Thread nD τ), (dutyOf x.2).1), 0, (dutyOf x.2).2)
/-- The tokens of all duties are different. -/
theorem tokOf_injective : Function.Injective tokOf := by
  rintro ⟨c, j⟩ ⟨c', j'⟩ h
  have h1 : c = c' := congrArg (fun x : GSem nD τ sig × ℕ × Fin 3 => x.1.1.1) h
  have h2 : j = j' := dutyOf_injective (congrArg (fun x : GSem nD τ sig × ℕ × Fin 3 => (x.1.2, x.2.2)) h)
  rw [h1, h2]
/-- Every duty's token. -/
def tokSet : Finset (GSem nD τ sig × ℕ × Fin 3) := Finset.univ.map ⟨tokOf, tokOf_injective⟩

/-- The launch's ghost element: the pipeline's and the exchange's. -/
def u₀ : UU := (initOf (Pipeline.cells cfgs cellOf_inj) (Pipeline.launchToks cfgs cellOf_inj), initOf cellSet tokSet)

/-- The tokens of the duties of device `c`'s own cells. -/
def toks (c : Dev nD) : sProp 𝕄 :=
  iprop((bigSep Finset.univ fun o : Fin 3 => dutyTok EX (barCell c) 0 o.rev)
    ∗ (bigSep Finset.univ fun o : Fin 3 => dutyTok EX (sendCell o c) 0 (0 : Fin 3))
    ∗ (bigSep Finset.univ fun o : Fin 3 => dutyTok EX (recvCell o c) 0 (0 : Fin 3)))

/-- What the launch element deals device `c`. -/
def G (c : Dev nD) : sProp 𝕄 :=
  iprop((bigSep Finset.univ fun k : Fin 7 => roundState EX (sched m ρ) (kcell (c, k)) 0)
    ∗ (bigSep Finset.univ fun k : Fin 7 => iprop(atPos EX (kcell (c, k)) 0 ∅ 0 ∗ reached EX (kcell (c, k)) 0)) ∗ toks c)

/-- What the global step makes of it. -/
def G' (c : Dev nD) : sProp 𝕄 := iprop(∃ K, ghost m ρ K c)

/-- Seven conjuncts over `Fin 7`, spelt out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The launch element funds every device's share. -/
theorem fund_cells : BI.own (EX (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Fin 7 => Φ (kcell (c, k)) := by
    unfold cellSet; rw [bigSep_map, bigSep_univ_prod]; rfl
  have hT : bigSep tokSet (fun x => (dutyTok EX x.1 x.2.1 x.2.2 : sProp 𝕄)) = bigSep Finset.univ fun c : Dev nD => toks c := by
    unfold tokSet; rw [bigSep_map, bigSep_univ_prod]
    exact bigSep_congr fun c _ => by rw [bigSep_univ_prod, bigSep_fin3]; rfl
  iintro HX
  imod (Rounds.fund EX (sched m ρ) cellSet tokSet) $$ HX with ⟨Hst, Hr, Hat, Htok⟩
  imodintro
  ihave Hst' := (Entails.of_eq (hX fun g => roundState EX (sched m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, as its send and receive cells. -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5] (by decide) (by decide)]; rfl

/-- The barrier semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the device's seven cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

/-- One device's cells put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (sched m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState EX (sched m ρ) (kcell (c, k)) 0)
      ⊢ (|={Set.univ}=> bigSep Finset.univ fun k => iprop(∃ κ : ℕ, cellInv EX (sched m ρ) κ (kcell (c, k))) : sProp 𝕄) from by
        rw [← bigSep_sep']
        exact (bigSep_mono fun k _ => (Rounds.body_intro EX (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens handed to the devices that pay them -/

/-- A family over copies and devices, each copy's devices renumbered by where the copy goes. -/
theorem around (Φ : Fin 3 → Dev nD → sProp 𝕄) :
    (bigSep Finset.univ fun c : Dev nD => bigSep Finset.univ fun o : Fin 3 => Φ o c)
      = bigSep Finset.univ fun c : Dev nD => bigSep Finset.univ fun o : Fin 3 => Φ o (peer o c) := by
  simp only [bigSep_fin3, bigSep_sep']
  rw [bigSep_univ_equiv (turn 0) (Φ 0), bigSep_univ_equiv (turn 1) (Φ 1), bigSep_univ_equiv (turn 2) (Φ 2)]
  rfl

/-- A barrier's and a receive cell's tokens go to the device whose signal or copy arrives there. -/
theorem toks_around : (bigSep Finset.univ fun c : Dev nD => (toks c : sProp 𝕄)) = bigSep Finset.univ fun c : Dev nD => payToks c := by
  unfold toks payToks
  rw [bigSep_sep', bigSep_sep', bigSep_sep', bigSep_sep',
    around (F := F) (fun o c => dutyTok EX (barCell c) 0 o.rev), around (F := F) (fun o c => dutyTok EX (recvCell o c) 0 (0 : Fin 3))]

/-- A device's positions, gathered from its list of cells. -/
theorem atAll_eq (c : Dev nD) : (bigSep Finset.univ fun k : Fin 7 => (atPos EX (kcell (c, k)) 0 ∅ 0 : sProp 𝕄)) ⊢ atAll c := by
  rw [bigSep_fin7]; unfold atAll
  iintro ⟨HB, HS0, HS1, HS2, HV0, HV1, HV2⟩
  isplitl [HB]; · iexact HB
  isplitl [HS0 HS1 HS2]
  · isplitl [HS0]; · iexact HS0
    isplitl [HS1]; · iexact HS1
    iexact HS2
  isplitl [HV0]; · iexact HV0
  isplitl [HV1]; · iexact HV1
  iexact HV2

/-- What everyone knows, and what one device holds, make its start. -/
theorem ghost_intro (K : Dev nD × Fin 7 → ℕ) (c : Dev nD) :
    iprop(records m ρ K ∗ ((bigSep Finset.univ fun k : Fin 7 => (atPos EX (kcell (c, k)) 0 ∅ 0 : sProp 𝕄)) ∗ payToks c)) ⊢ G' m ρ c := by
  unfold G' ghost
  iintro ⟨#HR, Hat, Htk⟩
  iexists K
  isplitr; · iexact HR
  isplitl [Hat]; · iapply (atAll_eq (F := F) c); iexact Hat
  iexact Htk

/-- The devices' allocations regrouped: one record for all, and to each device what it pays with. -/
theorem regroup :
    (bigSep Finset.univ fun c : Dev nD => iprop((bigSep Finset.univ fun k => iprop(∃ κ : ℕ, cellInv EX (sched m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv EX (sched m ρ) κ (kcell ck))),
    bigSep_congr (s := Finset.univ) (fun (c : Dev nD) _ => bigSep_sep' Finset.univ (fun k : Fin 7 => (atPos EX (kcell (c, k)) 0 ∅ 0 : sProp 𝕄)) (fun k => reached EX (kcell (c, k)) 0)),
    bigSep_sep', ← bigSep_univ_prod (fun ck : Dev nD × Fin 7 => (reached EX (kcell ck) 0 : sProp 𝕄)), toks_around]
  iintro ⟨HI, ⟨Hat, #HR⟩, Htk⟩
  ihave HK := (BI.bigSep_exists_pi Finset.univ (fun (ck : Dev nD × Fin 7) (κ : ℕ) => (cellInv EX (sched m ρ) κ (kcell ck) : sProp 𝕄))) $$ HI
  icases HK with ⟨%K, #HI⟩
  have hG : (bigSep Finset.univ fun c : Dev nD => iprop(records m ρ K
      ∗ (bigSep Finset.univ fun k : Fin 7 => atPos EX (kcell (c, k)) 0 ∅ 0) ∗ payToks c) : sProp 𝕄) ⊢ bigSep Finset.univ (G' m ρ) :=
    bigSep_mono fun c _ => ghost_intro m ρ K c
  iapply hG
  rw [bigSep_sep']
  isplitr
  · iapply (BI.bigSep_of_persistent Finset.univ (records m ρ K))
    unfold records; isplitl; · iexact HI
    iexact HR
  · iapply (Entails.of_eq (bigSep_sep' Finset.univ (fun c : Dev nD => bigSep Finset.univ fun k : Fin 7 => (atPos EX (kcell (c, k)) 0 ∅ 0 : sProp 𝕄)) payToks).symm)
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Whose signal `o` reaches `c`: the device `peer o.rev c`. -/
theorem peer_eq_iff (o : Fin 3) (c d : Dev nD) : (c = peer o d) = (d = peer o.rev c) := by revert o c d; decide

/-- Signal `o` of `d` owes a unit to `c`'s barrier cell where `d` is its sender. -/
theorem tB_bar (o : Fin 3) (d c : Dev nD) : tB o d (barCell c) () = if d = peer o.rev c then 1 else 0 := by
  unfold tB; rw [tallyAt_apply]
  refine if_congr ?_ rfl rfl
  rw [← peer_eq_iff]
  exact ⟨fun h => congrArg (fun g : GSem nD τ sig => g.1.1) h.1, fun h => ⟨by rw [h], rfl⟩⟩
/-- A signal owes nothing to a receive cell. -/
theorem tB_recv (o o' : Fin 3) (d c : Dev nD) : tB o d (recvCell o' c) () = 0 := by
  unfold tB; rw [tallyAt_apply]; exact if_neg fun h => recv_ne_bar o' (congrArg Prod.snd h.1)
/-- A copy owes nothing to a barrier cell. -/
theorem tR_bar (o : Fin 3) (d c : Dev nD) : tR o d (barCell c) () = 0 := by
  unfold tR; rw [tallyAt_apply]; exact if_neg fun h => recv_ne_bar o (congrArg Prod.snd h.1).symm
/-- The three receive semaphores are different. -/
theorem recvS_injective : Function.Injective recvS := by decide
/-- Copy `o` of `d` owes its size to `c`'s receive cell `o` where `d` is its sender. -/
theorem tR_recv (o o' : Fin 3) (d c : Dev nD) : tR o d (recvCell o' c) () = if o = o' ∧ d = peer o.rev c then N else 0 := by
  unfold tR; rw [tallyAt_apply]
  refine if_congr ?_ rfl rfl
  rw [← peer_eq_iff]
  refine ⟨fun h => ⟨?_, congrArg (fun g : GSem nD τ sig => g.1.1) h.1⟩, fun h => ⟨by rw [← h.1, h.2], rfl⟩⟩
  exact (recvS_injective (SemLoc.dma.inj (congrArg Prod.snd h.1))).symm

/-- What the devices together owe `c`'s barrier cell: three units. -/
theorem owed_bar (c : Dev nD) : ∑ d, O₀ d (barCell c) () = 3 := by
  unfold O₀ V
  simp only [Pi.add_apply, Finsupp.add_apply, tB_bar, tR_bar, Nat.zero_add, Finset.sum_add_distrib, Finset.sum_ite_eq', Finset.mem_univ, if_true]
/-- What they owe its receive cell `o`: one copy. -/
theorem owed_recv (o : Fin 3) (c : Dev nD) : ∑ d, O₀ d (recvCell o c) () = N := by
  unfold O₀ V
  simp only [Pi.add_apply, Finsupp.add_apply, tB_recv, tR_recv, Nat.add_zero, Finset.sum_add_distrib]
  fin_cases o <;> simp [Finset.sum_ite_eq']

/-- The launch credit of a barrier cell. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_bar]
/-- The launch credit of a receive cell. -/
theorem launch_recv (o : Fin 3) (c : Dev nD) :
    tallyOn (recvCell o c) (launchCredit (Pipeline.owing O₀) 0 (recvCell o c)) = (tallyAt (recvCell o c) () N : CellTallies nD τ sig Unit) := by
  unfold tallyAt; refine congrArg _ (Finsupp.ext fun u => ?_); cases u
  rw [Pipeline.launchCredit_owing, Finsupp.single_eq_same, owed_recv]

/-- A device's launch credit holds what its waits take. -/
theorem creds (c : Dev nD) : (Pipeline.launchCred O₀ c : sProp 𝕄) ⊢ creds₀ c := by
  unfold Pipeline.launchCred creds₀
  have h (Φ : SemLoc sig → sProp 𝕄) :
      bigSep Finset.univ Φ ⊢ bigSep [SemLoc.reg barS, .dma (recvS 0), .dma (recvS 1), .dma (recvS 2)].toFinset Φ :=
    bigSep_subset (Finset.subset_univ _)
  refine (h _).trans ?_
  rw [bigSep_eq_bigSepL_of_eq _ rfl (by decide), ← launch_bar, ← launch_recv, ← launch_recv, ← launch_recv]
  exact Entails.of_eq rfl

/-! ## The side conditions of the launch theorem -/

/-- The third argument's buffer, which the kernel never touches. -/
def restPts (c : Dev nD) : sProp 𝕄 := (((c : Thread nD τ).loc main_arg2) ↦{fullShare} m ((c : Thread nD τ).loc main_arg2))

/-- What a device is launched with gives its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ restPts m c) := by
  rw [Pipeline.unscopedRestP_none, show Pipeline.unscopedRest (Ix := Unit) (Name := ℕ) (U := UU) (Lvl := ℕ) cfg0.spec c (fun b => m ((c : Thread nD τ).loc b)) = restPts m c from unscopedRest0_eq c _]
  iintro ⟨Hrest, Hlev, Hcr, -, HG⟩
  ihave Hc := (creds (F := F) c) $$ Hcr
  imodintro
  unfold start G'
  isplitr [Hrest]
  · isplitl [HG]; · iexact HG
    isplitl [Hc]; · iexact Hc
    iexact Hlev
  · iexact Hrest

/-- The start and the scratch buffers give what the body needs. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, H0, H1⟩
  isplitl [Hs]; · iexact Hs
  isplitl [H0]; · iexact H0
  iexact H1

/-- What the body leaves gives the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨⟨H0, H1⟩, HzB, ⟨HS0, HS1, HS2⟩, ⟨HV0, HV1, HV2⟩⟩
  isplitl [HzB]; · iexact HzB
  isplitl [HS0 HS1 HS2 HV0 HV1 HV2]
  · isplitl [HS0]; · iexact HS0
    isplitl [HS1]; · iexact HS1
    isplitl [HS2]; · iexact HS2
    isplitl [HV0]; · iexact HV0
    isplitl [HV1]; · iexact HV1
    iexact HV2
  isplitl [H0]; · iexact H0
  iexact H1

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- What holds of a final memory: each window's array at its final contents, the third argument untouched. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)

/-- Reading a whole buffer's contents off the machine. -/
theorem rest_read (c : Dev nD) (s' : Phys nD τ sig (Elt F)) :
    iprop(restPts m c ∗ SI s') ⊢ (iprop(⌜s'.mem.mem ((c : Thread nD τ).loc main_arg2) = m ((c : Thread nD τ).loc main_arg2)⌝ ∗ SI s') : sProp 𝕄) := by
  unfold restPts
  iintro ⟨H, HSI⟩
  ihave %h := (SI_pointsTo_agree (st := s') (ℓ := (c : Thread nD τ).loc main_arg2) (I := Finset.univ) (q := fullShare)) $$ [HSI H]
  · isplitl [HSI] <;> iassumption
  isplitr; · ipureintro; exact funext fun i => h i (Finset.mem_univ i)
  iexact HSI

set_option maxRecDepth 8000 in
/-- Four devices, any float values, any memory with zero counters: every fair execution ends, with each window's array
    at its final contents, the third argument untouched and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := restPts m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      iintro ⟨Hu, Hz, HSI⟩
      ihave Hr := (rest_read (F := F) m c s') $$ [Hz HSI]
      · isplitl [Hz] <;> iassumption
      icases Hr with ⟨%h2, HSI⟩
      imod (Pipeline.unscopedSems0_read (X := unscopedSems0 c) (c := c) fupd_intro s') $$ [Hu HSI] with ⟨%h1, HSI⟩
      · isplitl [Hu] <;> iassumption
      imodintro
      isplitr; · ipureintro; exact ⟨h1, h2⟩
      iexact HSI)
    (hQ := fun _ h hs => ⟨fun c => ⟨fun w => (h c).1 w, (h c).2.2.2⟩, sem_eq_zero hs fun c => (h c).2.2.1⟩)

/-- The `x` array ends as it began. -/
theorem finalA_x (c : Dev nD) : finalA m ρ c (0 : Fin 3) = m ((c : Thread nD τ).loc main_arg0) :=
  (dats (F := F) m ρ 0 c).arrAt_in (0 : Fin 3) rfl _
/-- The `dy` array ends as it began. -/
theorem finalA_dy (c : Dev nD) : finalA m ρ c (1 : Fin 3) = m ((c : Thread nD τ).loc main_arg1) :=
  (dats (F := F) m ρ 0 c).arrAt_in (1 : Fin 3) rfl _

end Cert.LnBwd

end
-- ==== Proof.Value.lean ====
/-
# The values

Over the extended reals: what the kernel leaves on each device, and what the reference computes, as one and the same
sum over the 2048 rows.
-/
module

public import proofs.«01_k».proof.Proof.Launch
public import proofs.«01_k».proof.Proof.Gen.ReferenceIdeal
public import Idealize.ShloMosaic.Lib.Pointwise
public import Idealize.ShloMosaic.Lib.IdealHost
public import Idealize.ShloMosaic.Lib.Layout

@[expose] public section

noncomputable section

namespace Cert.LnBwd

open Idealize.ShloMosaic
open Idealize.ShloMosaic.TcCoe

/-! ## One row -/

/-- The row length, as both programs spell it. -/
def len : EReal := Ideal.ofBits .f32 0x44000000#32
/-- The constant under the root, as both programs spell it. -/
def eps : EReal := Ideal.ofBits .f32 0x3727C5AC#32

/-- The mean of a row. -/
def mean (r : Fin 512 → EReal) : EReal := Ideal.div (∑ k, r k) len
/-- The variance of a row: the mean of the squares of the row less its mean. -/
def var (r : Fin 512 → EReal) : EReal := Ideal.div (∑ k, (r k - mean r) * (r k - mean r)) len
/-- The normalised row. -/
def xhat (r : Fin 512 → EReal) (l : Fin 512) : EReal := (r l - mean r) * Ideal.rsqrt (var r + eps)

/-- The row length is 512. -/
theorem len_eq : len = ((512 : ℝ) : EReal) := by
  unfold len; simp [Ideal.ofBits, Ideal.ieee, -EReal.coe_mul]; norm_num

/-- The row length is positive. -/
theorem len_pos : 0 < len := by
  rw [len_eq]; exact EReal.coe_pos.mpr (by norm_num)

/-- The constant under the root is positive. -/
theorem eps_pos : 0 < eps := by
  unfold eps; simp [Ideal.ofBits, Ideal.ieee, -EReal.coe_mul]

/-- A square is not negative. -/
theorem sq_nonneg' (x : EReal) : 0 ≤ x * x := by
  induction x with
  | bot => simp
  | top => simp
  | coe r => rw [← EReal.coe_mul]; exact EReal.coe_nonneg.mpr (mul_self_nonneg r)

/-- A variance is not negative. -/
theorem var_nonneg (r : Fin 512 → EReal) : 0 ≤ var r := by
  unfold var
  rw [len_eq, Ideal.div_coe (by norm_num)]
  exact mul_nonneg (Finset.sum_nonneg fun k _ => sq_nonneg' _) (EReal.coe_nonneg.mpr (by norm_num))

/-- One over the root is the reciprocal root, of a positive number. -/
theorem div_sqrt (v : EReal) (h : 0 < v) : Ideal.div 1 (Ideal.sqrt v) = Ideal.rsqrt v := by
  induction v with
  | bot => exact absurd h (by simp)
  | top => simp [Ideal.div]
  | coe r =>
    have hr : 0 < r := EReal.coe_pos.mp h
    rw [Ideal.sqrt_coe, Ideal.rsqrt_coe, if_neg (not_lt.mpr hr.le), if_neg (not_lt.mpr hr.le), if_neg hr.ne',
      Ideal.div_coe (Real.sqrt_pos.mpr hr).ne', one_mul, one_div]

/-- The reference's reciprocal of the root is the kernel's reciprocal root. -/
theorem rstd_eq (r : Fin 512 → EReal) : Ideal.div 1 (Ideal.sqrt (var r + eps)) = Ideal.rsqrt (var r + eps) :=
  div_sqrt _ (lt_of_lt_of_le eps_pos (le_add_of_nonneg_left (var_nonneg r)))

/-! ## The two sums -/

/-- The term of row `k` of an array in entry (`i`, `l`) of the result: for `i = 0` the weight's gradient, for `i = 1`
    the offset's. -/
def term {R : ℕ} (x dy : (⟨2, ![R, 512]⟩ : Shape).Idx → EReal) (i : Fin 2) (l : Fin 512) (k : Fin R) : EReal :=
  if i = 0 then dy (ix2 k l) * xhat (fun l' => x (ix2 k l')) l else dy (ix2 k l)

section Kernel
open Cert.KernelIdeal Cert.KernelIdeal.Gen

/-- A device's partial sums, entry by entry. -/
theorem pay1_apply (x dy : Vec Ideal S512x512 .bf16) (i : Fin 2) (l : Fin 512) :
    k0_pay1 (F := Ideal) x dy (ix2 i l) = ∑ k, term x dy i l k := by
  fin_cases i
  · show k0_pay1 (F := Ideal) x dy (ix2 0 l) = _
    pointwise [k0_pay1]
    rfl
  · show k0_pay1 (F := Ideal) x dy (ix2 1 l) = _
    pointwise [k0_pay1]
    rfl

end Kernel

section Reference
open Cert.ReferenceIdeal Cert.ReferenceIdeal.Gen

/-- The rows' means, as the reference computes them. -/
def refMean (x : FVec Ideal S2048x512 .bf16) : FVec Ideal S2048x1 .f32 :=
  Host.divf (broadcastInDim S2048x1 ![0] bcast_S2048_S2048x1_0 (Host.reduceAdd (extf .f32 x bitsLt_bf16_f32) (constant S_ .f32 0x00000000#32) reducesTo_S2048x512_S2048_d1 h_S_)) (broadcastInDim S2048x1 ![] bcast_S_S2048x1 (constant S_ .f32 0x44000000#32))
/-- The rows less their means. -/
def refCent (x : FVec Ideal S2048x512 .bf16) : FVec Ideal S2048x512 .f32 :=
  subf (extf .f32 x bitsLt_bf16_f32) (broadcastInDim S2048x512 ![0, 1] bcast_S2048x1_S2048x512_0_1 (refMean x))
/-- The number the reference divides the sum of squares by. -/
def refLen : FVec Ideal S_ .f32 := subf (constant S_ .f32 0x44000000#32) (sitofp .f32 (constantI S_ 32 0#32))
/-- The rows' variances, as the reference computes them: guarded by that number being positive. -/
def refVar (x : FVec Ideal S2048x512 .bf16) : FVec Ideal S2048x1 .f32 :=
  select (broadcastInDim S2048x1 ![] bcast_S_S2048x1 (cmpf .ogt refLen (constant S_ .f32 0x00000000#32)))
    (Host.divf (broadcastInDim S2048x1 ![0] bcast_S2048_S2048x1_0 (Host.reduceAdd (mulf (refCent x) (refCent x)) (constant S_ .f32 0x00000000#32) reducesTo_S2048x512_S2048_d1 h_S_)) (broadcastInDim S2048x1 ![] bcast_S_S2048x1 refLen))
    (broadcastInDim S2048x1 ![] bcast_S_S2048x1 (id (constant S_ .f32 0x7FC00000#32)))
/-- One over the root of the variances. -/
def refRstd (x : FVec Ideal S2048x512 .bf16) : FVec Ideal S2048x1 .f32 :=
  Host.divf (broadcastInDim S2048x1 ![] bcast_S_S2048x1 (constant S_ .f32 0x3F800000#32))
    (Host.sqrt (addf (refVar x) (broadcastInDim S2048x1 ![] bcast_S_S2048x1 (constant S_ .f32 0x3727C5AC#32))))
/-- The reference's result. -/
def refOut (x dy : FVec Ideal S2048x512 .bf16) : FVec Ideal S2x512 .f32 :=
  concatenate S2x512 0
    [⟨S1x512, (broadcastInDim S1x512 ![1] bcast_S512_S1x512_1 (Host.reduceAdd (mulf (extf .f32 dy bitsLt_bf16_f32) (mulf (refCent x) (broadcastInDim S2048x512 ![0, 1] bcast_S2048x1_S2048x512_0_1 (refRstd x)))) (constant S_ .f32 0x00000000#32) reducesTo_S2048x512_S512_d0 h_S_))⟩,
      ⟨S1x512, (broadcastInDim S1x512 ![1] bcast_S512_S1x512_1 (Host.reduceAdd (extf .f32 dy bitsLt_bf16_f32) (constant S_ .f32 0x00000000#32) reducesTo_S2048x512_S512_d0 h_S_))⟩]
    concatenates_S1x512_S1x512_S2x512_d0

variable (x dy : FVec Ideal S2048x512 .bf16)

/-- The reference's mean of a row is the mean. -/
theorem refMean_apply (k : Fin 2048) : refMean x (ix2 k 0) = mean fun l => x (ix2 k l) := by
  pointwise [refMean]
  rfl
/-- The reference's centred entry is the entry less the mean. -/
theorem refCent_apply (k : Fin 2048) (l : Fin 512) : refCent x (ix2 k l) = x (ix2 k l) - mean fun l => x (ix2 k l) := by
  rw [← refMean_apply]
  pointwise [refCent]
/-- The number divided by is the row length. -/
theorem refLen_apply (j : S_.Idx) : refLen j = len := by
  pointwise [refLen]
  show len - (((0#32 : BitVec 32).toInt : ℝ) : EReal) = len
  simp
/-- The reference's variance of a row is the variance: the guard holds. -/
theorem refVar_apply (k : Fin 2048) : refVar x (ix2 k 0) = var fun l => x (ix2 k l) := by
  pointwise [refVar]
  simp only [refLen_apply, refCent_apply]
  rw [if_pos len_pos]
  rfl
/-- The reference's reciprocal of the root is the reciprocal root. -/
theorem refRstd_apply (k : Fin 2048) : refRstd x (ix2 k 0) = Ideal.rsqrt ((var fun l => x (ix2 k l)) + eps) := by
  rw [← rstd_eq, ← refVar_apply]
  pointwise [refRstd]
  rfl

/-- The reference's result, entry by entry. -/
theorem refOut_apply (i : Fin 2) (l : Fin 512) : refOut x dy (ix2 i l) = ∑ k, term x dy i l k := by
  fin_cases i
  · show refOut x dy (ix2 0 l) = _
    pointwise [refOut]
    simp only [refCent_apply, refRstd_apply]
    rfl
  · show refOut x dy (ix2 1 l) = _
    pointwise [refOut]
    rfl

end Reference

/-! ## Four blocks of rows -/

/-- A sum over the 2048 rows, block by block. -/
theorem sum_blocks (f : Fin 2048 → EReal) :
    ∑ k, f k = ∑ c : Fin 4, ∑ k : Fin 512, f ⟨c.val * 512 + k.val, by omega⟩ := by
  rw [← Fintype.sum_prod_type' (f := fun (c : Fin 4) (k : Fin 512) => f ⟨c.val * 512 + k.val, by omega⟩)]
  refine (Fintype.sum_equiv (finProdFinEquiv (m := 4) (n := 512)) _ f fun x => congrArg f (Fin.ext ?_)).symm
  show x.1.val * 512 + x.2.val = x.2.val + 512 * x.1.val
  omega

/-- A block's row is the whole array's. -/
theorem term_block (x dy : (⟨2, ![2048, 512]⟩ : Shape).Idx → EReal) (c : Fin 4) (i : Fin 2) (l k : Fin 512) :
    term (R := 512) (Layout.block ⟨2, ![512, 512]⟩ ⟨2, ![2048, 512]⟩ 0 4 c x) (Layout.block ⟨2, ![512, 512]⟩ ⟨2, ![2048, 512]⟩ 0 4 c dy) i l k
      = term (R := 2048) x dy i l ⟨c.val * 512 + k.val, by omega⟩ := by
  have h (v : (⟨2, ![2048, 512]⟩ : Shape).Idx → EReal) (l' : Fin 512) :
      Layout.block ⟨2, ![512, 512]⟩ ⟨2, ![2048, 512]⟩ 0 4 c v (by decide) (ix2 k l') = v (ix2 ⟨c.val * 512 + k.val, by omega⟩ l') := by
    rw [Layout.block_apply]
    refine congrArg v (funext fun a => ?_)
    fin_cases a <;> rfl
  unfold term; simp only [h]

/-! ## The result on a device -/

section Final
open Cert.KernelIdeal Cert.KernelIdeal.Gen

variable {F : FTy → Type} [FloatOps F]
variable (m : (ℓ : Loc nD τ sig) → Buf (Elt F) ℓ) (ρ : Dev nD → PrngReg)

/-- What is staged of `x` is its whole array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
/-- What is staged of `dy` is its whole array. -/
theorem dystg_eq (c : Dev nD) : dystg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The result array ends holding what the body stored. -/
theorem finalA_out (c : Dev nD) : finalA m ρ c (2 : Fin 3) = outAt m ρ c := by
  have hz : (fun a => (win0_2.index (0 : Fin 1)) a * main_v1.ty.shape.size a) = fun _ => 0 :=
    funext fun a => by fin_cases a <;> decide
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 hz (fun a => by fin_cases a <;> decide) _).symm.trans h

end Final

section IdealOut
open Cert.KernelIdeal Cert.KernelIdeal.Gen

variable (m : (ℓ : Loc nD τ sig) → Buf (Elt Ideal) ℓ) (ρ : Dev nD → PrngReg)

/-- Added in any order: the result on every device is the sum of the four devices' partial sums. -/
theorem outAt_apply (c : Dev nD) (j : S2x512.Idx) : outAt m ρ c j = ∑ d : Dev nD, part m ρ d j := by
  have h (f : Dev nD → EReal) : f c + f (peer (Fin.rev 0) c) + f (peer (Fin.rev 1) c) + f (peer (Fin.rev 2) c) = ∑ d : Dev nD, f d := by
    have hs : ∑ d : Dev nD, f d = f (0 : Fin 4) + f (1 : Fin 4) + f (2 : Fin 4) + f (3 : Fin 4) := Fin.sum_univ_four f
    rw [hs]
    fin_cases c
    · show f (0 : Fin 4) + f (3 : Fin 4) + f (2 : Fin 4) + f (1 : Fin 4) = _; ac_rfl
    · show f (1 : Fin 4) + f (0 : Fin 4) + f (3 : Fin 4) + f (2 : Fin 4) = _; ac_rfl
    · show f (2 : Fin 4) + f (1 : Fin 4) + f (0 : Fin 4) + f (3 : Fin 4) = _; ac_rfl
    · show f (3 : Fin 4) + f (2 : Fin 4) + f (1 : Fin 4) + f (0 : Fin 4) = _; ac_rfl
  exact h fun d => part m ρ d j

/-- Where each device holds its block of rows, every device's result is the reference's. -/
theorem outAt_eq (x dy : FVec Ideal Cert.ReferenceIdeal.S2048x512 .bf16)
    (hx : ∀ c : Dev nD, m ((c : Thread nD τ).loc main_arg0) = Layout.block ⟨2, ![512, 512]⟩ ⟨2, ![2048, 512]⟩ 0 4 c x)
    (hdy : ∀ c : Dev nD, m ((c : Thread nD τ).loc main_arg1) = Layout.block ⟨2, ![512, 512]⟩ ⟨2, ![2048, 512]⟩ 0 4 c dy)
    (c : Dev nD) : outAt m ρ c = refOut x dy := by
  funext j
  obtain ⟨i, l, rfl⟩ : ∃ (i : Fin 2) (l : Fin 512), j = ix2 i l := ⟨j 0, j 1, eq_ix2 j⟩
  rw [outAt_apply, refOut_apply, sum_blocks]
  refine Finset.sum_congr rfl fun d _ => ?_
  unfold part
  rw [pay1_apply, xstg_eq, dystg_eq, hx d, hdy d]
  exact Finset.sum_congr rfl fun k _ => term_block x dy d i l k

end IdealOut

end Cert.LnBwd

end
-- ==== Proof.lean ====
/-
# The five claims

The kernel's run is proved once, for any float values (Proof/Launch); the frames of the device program and of its reading
over the extended reals are two instances of it. The value claim joins that run to the reference's by Proof/Value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem
open Cert.LnBwd (run_main finalA_x finalA_dy finalA_out outAt_eq refOut)

section
open Cert.KernelIdeal

/-- For any float values: the kernel ends quiescent, its arguments unchanged. -/
theorem run_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun _ h => ⟨fun c => ⟨((h.1 c).1 (0 : Fin 3)).trans (finalA_x m ρ c), ((h.1 c).1 (1 : Fin 3)).trans (finalA_dy m ρ c),
      (h.1 c).2⟩, h.2⟩)
    (run_main m ρ)

end

/-- The two programs have one text: their kernels' tables are the same, label by label. -/
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  fin_cases l
  rfl

/-- So their whole tables are. -/
theorem defs_eq : Cert.Kernel.defs (F := Bits) = Cert.KernelIdeal.defs (F := Bits) :=
  congrArg (Pipeline.defs Cert.KernelIdeal.pcfgs) defs₀_eq

/-- The kernel's frame, in the device's own floats. -/
theorem frame_kernel : Cert.quiescent_Kernel := fun m ρ _ => by
  rw [defs_eq]
  exact run_frame (F := Bits) m ρ

/-- The kernel's frame over the extended reals. -/
theorem frame_kernelIdeal : Cert.quiescent_KernelIdeal := fun m ρ _ => run_frame (F := Ideal) m ρ

/-- The reference's frame: it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem value : Cert.algebraic_KernelIdeal_ReferenceIdeal := fun m ρ m' ρ' _ hm =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(((h.1 c).1 (2 : Fin 3)).trans (finalA_out m ρ c)).trans
          (outAt_eq m ρ _ _ (fun c => (hm c).1) (fun c => (hm c).2.1) c),
        ((h.1 c).1 (0 : Fin 3)).trans (finalA_x m ρ c), ((h.1 c).1 (1 : Fin 3)).trans (finalA_dy m ρ c), (h.1 c).2⟩)
      (run_main (F := Ideal) m ρ),
    (θ_run Cert.ReferenceIdeal.defs _ _).mono (fun _ h => h 0) (Cert.ReferenceIdeal.Value.run (F := Ideal) m' ρ')⟩

/-- Everything claimed. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
